-- ==== Defs.lean ====
def Pre_Kernel (m : (ℓ : Loc Cert.Kernel.nD Cert.Kernel.τ Cert.Kernel.sig) → Buf (Elt Bits) ℓ) : Prop :=
  True

def Pre_Kernel_one_state [hPre_one_state : Cert.Pre_one_state.Facts] (m : (ℓ : Loc Cert.Kernel.nD Cert.Kernel.τ Cert.Kernel.sig) → Buf (Elt Bits) ℓ) : Prop :=
  ∀ c : Dev Cert.Kernel.nD,
    (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.1 = (fun _ => 1#1)
    ∧ (Cert.Pre_one_state.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2 = (fun _ => 1#1)

def Pre_KernelIdeal [hPre_one_state : Cert.Pre_one_state.Facts] (m : (ℓ : Loc Cert.KernelIdeal.nD Cert.KernelIdeal.τ Cert.KernelIdeal.sig) → Buf (Elt Ideal) ℓ) : Prop :=
  ∀ c : Dev Cert.KernelIdeal.nD,
    (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_one_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_state [hPre_one_state : Cert.Pre_one_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_one_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_one_state [hKernel : Cert.Kernel.Facts] [hPre_one_state : Cert.Pre_one_state.Facts] : Prop :=
  ∀ (m : (ℓ : Loc Cert.Kernel.nD Cert.Kernel.τ Cert.Kernel.sig) → Buf (Elt Bits) ℓ) (g : Dev Cert.Kernel.nD → PrngReg), Pre_Kernel_one_state m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_one_state : Cert.Pre_one_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_one_state [hReferenceIdeal : Cert.ReferenceIdeal.Facts] [hPre_one_state : Cert.Pre_one_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_state : Cert.Pre_one_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_one_state : Cert.Pre_one_state.Facts),
    quiescent_Kernel (hKernel := hKernel)
    ∧ quiescent_Kernel_pre_one_state (hKernel := hKernel) (hPre_one_state := hPre_one_state)
    ∧ quiescent_KernelIdeal (hKernelIdeal := hKernelIdeal) (hPre_one_state := hPre_one_state)
    ∧ quiescent_ReferenceIdeal (hReferenceIdeal := hReferenceIdeal)
    ∧ quiescent_ReferenceIdeal_pre_one_state (hReferenceIdeal := hReferenceIdeal) (hPre_one_state := hPre_one_state)
    ∧ preserves_Kernel_KernelIdeal
    ∧ algebraic_KernelIdeal_ReferenceIdeal (hKernelIdeal := hKernelIdeal) (hReferenceIdeal := hReferenceIdeal) (hPre_one_state := hPre_one_state)
-- ==== Pre_one_state.lean ====
abbrev S8192x1024 : Shape := ⟨2, ![8192, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S_ : Shape := ⟨0, ![]⟩
abbrev S8192 : Shape := ⟨1, ![8192]⟩
abbrev S8192x1 : Shape := ⟨2, ![8192, 1]⟩

class Facts : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  natLt_1_32 : 1 < 32
  bcast_S_S8192 : S_.BroadcastsInDim S8192 (![] : Fin 0 → Fin S8192.rank)
  bcast_S_S1024 : S_.BroadcastsInDim S1024 (![] : Fin 0 → Fin S1024.rank)
  bcast_S_S3 : S_.BroadcastsInDim S3 (![] : Fin 0 → Fin S3.rank)
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024x3 : S_.BroadcastsInDim S1024x3 (![] : Fin 0 → Fin S1024x3.rank)

variable [Facts]

def fn_part1 {F : FTy → Type} [FloatOps F] (main_arg3 : FVec F S1024x3 .f32) (main_v7 : IVec S8192 1) (main_v9 : IVec S1024 1) (main_v11 : IVec S3 1) (main_v14 : IVec S8192x1024 1) (main_v15 : FVec F S1024x1024 .f32) (main_v16 : FVec F S1024x1024 .f32) : IVec S8192 1 × IVec S1024 1 × IVec S3 1 × IVec S8192x1024 1 × IVec S1024x1024 1 × IVec S1024x3 1 :=
  let main_v17 : IVec S1024x1024 1 := cmpf .olt main_v15 main_v16
  let main_v18 : FVec F S1024x3 .f32 := Host.absf main_arg3
  let main_cst_5 : FVec F S_ .f32 := constant S_ .f32 0x7F800000#32
  let main_v19 : FVec F S1024x3 .f32 := broadcastInDim S1024x3 ![] bcast_S_S1024x3 main_cst_5
  let main_v20 : IVec S1024x3 1 := cmpf .olt main_v18 main_v19
  (main_v7, main_v9, main_v11, main_v14, main_v17, main_v20)

def fn {F : FTy → Type} [FloatOps F] (main_arg0 : FVec F S8192x1024 .f32) (main_arg1 : FVec F S1024x1024 .f32) (main_arg2 : FVec F S1024 .f32) (main_arg3 : FVec F S1024x3 .f32) (main_arg4 : FVec F S3 .f32) : IVec S8192 1 × IVec S1024 1 × IVec S3 1 × IVec S8192x1024 1 × IVec S1024x1024 1 × IVec S1024x3 1 :=
  let main_cst : FVec F S_ .f32 := constant S_ .f32 0xFF800000#32
  let main_v0 : FVec F S8192 .f32 := (fun x v => Host.reduce FloatOps.maximumf x v reducesTo_S8192x1024_S8192_d1 h_S_) main_arg0 main_cst
  let main_v1 : FVec F S8192x1 .f32 := broadcastInDim S8192x1 ![0] bcast_S8192_S8192x1_0 main_v0
  let main_v2 : FVec F S8192x1024 .f32 := broadcastInDim S8192x1024 ![0, 1] bcast_S8192x1_S8192x1024_0_1 main_v1
  let main_v3 : IVec S8192x1024 1 := cmpf .oeq main_arg0 main_v2
  let main_v4 : IVec S8192x1024 32 := (extui 32 · natLt_1_32) main_v3
  let main_c : IVec S_ 32 := constantI S_ 32 0#32
  let main_v5 : IVec S8192 32 := (fun x v => Host.reduce IntOp.addi x v reducesTo_S8192x1024_S8192_d1 h_S_) main_v4 main_c
  let main_c_0 : IVec S_ 32 := constantI S_ 32 1#32
  let main_v6 : IVec S8192 32 := broadcastInDim S8192 ![] bcast_S_S8192 main_c_0
  let main_v7 : IVec S8192 1 := cmpi .eq main_v5 main_v6
  let main_cst_1 : FVec F S_ .f32 := constant S_ .f32 0x00000000#32
  let main_v8 : FVec F S1024 .f32 := broadcastInDim S1024 ![] bcast_S_S1024 main_cst_1
  let main_v9 : IVec S1024 1 := cmpf .oeq main_arg2 main_v8
  let main_cst_2 : FVec F S_ .f32 := constant S_ .f32 0x00000000#32
  let main_v10 : FVec F S3 .f32 := broadcastInDim S3 ![] bcast_S_S3 main_cst_2
  let main_v11 : IVec S3 1 := cmpf .oeq main_arg4 main_v10
  let main_v12 : FVec F S8192x1024 .f32 := Host.absf main_arg0
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024x1024 .f32 := Host.absf main_arg1
  let main_cst_4 : FVec F S_ .f32 := constant S_ .f32 0x7F800000#32
  let main_v16 : FVec F S1024x1024 .f32 := broadcastInDim S1024x1024 ![] bcast_S_S1024x1024 main_cst_4
  fn_part1 (F := F) main_arg3 main_v7 main_v9 main_v11 main_v14 main_v15 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S3x1024 : Shape := ⟨2, ![3, 1024]⟩
abbrev S_ : Shape := ⟨0, ![]⟩
abbrev S8x1024 : Shape := ⟨2, ![8, 1024]⟩
abbrev S3x8192 : Shape := ⟨2, ![3, 8192]⟩
abbrev S8192 : Shape := ⟨1, ![8192]⟩
abbrev S2048x1024 : Shape := ⟨2, ![2048, 1024]⟩
abbrev S3x2048 : Shape := ⟨2, ![3, 2048]⟩
abbrev S2048 : Shape := ⟨1, ![2048]⟩
abbrev S8x2048 : Shape := ⟨2, ![8, 2048]⟩
abbrev S1x2048 : Shape := ⟨2, ![1, 2048]⟩
abbrev S8192x3 : Shape := ⟨2, ![8192, 3]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x3, .f32⟩
  | .hbm, ⟨4, _⟩ => ⟨S3, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S8x1024, .bf16⟩
  | .hbm, ⟨10, _⟩ => ⟨S3x8192, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i1⟩
  | .hbm, ⟨16, _⟩ => ⟨S8192x3, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S8x1024, .bf16⟩
  | .local _ .vmem, ⟨4, _⟩ => ⟨S3x2048, .f32⟩
  | .local _ .vmem, ⟨5, _⟩ => ⟨S3x2048, .f32⟩
  | .local _ .vmem, ⟨6, _⟩ => ⟨S2048, .i32⟩
  | .local _ .vmem, ⟨7, _⟩ => ⟨S2048, .i32⟩
  | .local _ .vmem, ⟨8, _⟩ => ⟨S1024x1024, .bf16⟩
  | .local _ .vmem, ⟨9, _⟩ => ⟨S8x2048, .f32⟩
  | .local _ .vmem, ⟨10, _⟩ => ⟨S1x2048, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S1x1024 : Shape := ⟨2, ![1, 1024]⟩
abbrev S_ : Shape := ⟨0, ![]⟩
abbrev S8192x3 : Shape := ⟨2, ![8192, 3]⟩
abbrev S1x3 : Shape := ⟨2, ![1, 3]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x3, .f32⟩
  | .hbm, ⟨4, _⟩ => ⟨S3, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x3, .f32⟩
  | .hbm, ⟨13, _⟩ => ⟨S1x3, .f32⟩
  | .hbm, ⟨14, _⟩ => ⟨S8192x3, .f32⟩
  | .hbm, ⟨15, _⟩ => ⟨S8192x3, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x3, .f32⟩
  | .hbm, ⟨23, _⟩ => ⟨S8192x3, .f32⟩
  | .hbm, ⟨24, _⟩ => ⟨S8192x3, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x3, .f32⟩
  | .hbm, ⟨29, _⟩ => ⟨S8192x3, .f32⟩
  | .hbm, ⟨30, _⟩ => ⟨S8192x1024, .i32⟩
  | .hbm, ⟨31, _⟩ => ⟨S_, .f32⟩
  | .hbm, ⟨32, _⟩ => ⟨S_, .i32⟩
  | .hbm, ⟨33, _⟩ => ⟨S8192, .f32⟩
  | .hbm, ⟨34, _⟩ => ⟨S8192, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S_, .i1⟩
  | .hbm, ⟨51, _⟩ => ⟨S8192, .i1⟩
  | .hbm, ⟨52, _⟩ => ⟨S8192, .i1⟩
  | .hbm, ⟨53, _⟩ => ⟨S8192, .i1⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S_, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S8192, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x3, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S_, .i32⟩
  | .hbm, ⟨93, _⟩ => ⟨S8192, .i32⟩
  | .hbm, ⟨94, _⟩ => ⟨S8192, .i1⟩
  | .hbm, ⟨95, _⟩ => ⟨S8192, .i1⟩
  | .hbm, ⟨96, _⟩ => ⟨S_, .f32⟩
  | .hbm, ⟨97, _⟩ => ⟨S8192x3, .f32⟩
  | .hbm, ⟨98, _⟩ => ⟨S8192x3, .f32⟩
  | .hbm, ⟨99, _⟩ => ⟨S8192x3, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x3, .f32⟩
  | .hbm, ⟨104, _⟩ => ⟨S8192x3, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v20 : Ref sig .tc := ⟨.hbm, 34, rfl⟩
abbrev main_c : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v21 : Ref sig .tc := ⟨.hbm, 56, rfl⟩
abbrev main_c_2 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v22 : Ref sig .tc := ⟨.hbm, 74, rfl⟩
abbrev main_c_3 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_c_4 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_5 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_6 : Ref sig .tc := ⟨.hbm, 89, rfl⟩
abbrev main_v34 : Ref sig .tc := ⟨.hbm, 90, rfl⟩
abbrev main_v35 : Ref sig .tc := ⟨.hbm, 91, rfl⟩
abbrev main_c_7 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_8 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_9 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩

abbrev nD : Nat := 1
abbrev τ : Topo := Topo.v7x

variable {F : FTy → Type} [FloatOps F]
-- ==== Proof.KRun.lean ====
/- The kernel body's run on named contents: what one grid step leaves in its two output blocks and in its three
   scratch buffers, in each of the three cases the two branch conditions select. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The first branch is taken: the step converts the first weight matrix. -/
abbrev isFirst (i : grid0.Coords) : Prop := (Scalar.cmpi .ne (Scalar.extui (Scalar.cmpi .eq (BitVec.ofNat 32 (i 0).val) 0#32)) 0#32) = 1#1
/-- The second branch is taken: the step computes a block's logits and positions. -/
abbrev isBusy (i : grid0.Coords) : Prop := (Scalar.cmpi .ne (Scalar.extui (Scalar.cmpi .slt (BitVec.ofNat 32 (i 0).val) 4#32)) 0#32) = 1#1

theorem isFirst_iff : ∀ t : Fin cfg0.N, isFirst (grid0.coords t) ↔ t.val = 0 :=
  (by decide +kernel : ∀ t : Fin grid0.N, isFirst (grid0.coords t) ↔ t.val = 0)
theorem isBusy_iff : ∀ t : Fin cfg0.N, isBusy (grid0.coords t) ↔ t.val < 4 :=
  (by decide +kernel : ∀ t : Fin grid0.N, isBusy (grid0.coords t) ↔ t.val < 4)

/-- The probability block the epilogue computes from a block's logits and positions. -/
def probsBlk (l : Vec F S8x2048 .f32) (x : Vec F S1x2048 .i32) : FVec F S3x2048 .f32 :=
  k0_pay17 (k0_pay9 l) (k0_pay10 l) (k0_pay11 l) (k0_pay12 l) x (k0_pay13 x) 32#32 (k0_pay14 x) (k0_pay15 x) k0_pay16
/-- The block of end flags the epilogue computes from a block's positions. -/
def doneBlk (x : Vec F S1x2048 .i32) : IVec S2048 32 := k0_pay1 x 1023#32

/-- A load of the whole of a whole memref reads what it holds. -/
theorem load_whole {sp : Space} {s : Shape} {e : EltTy} {m : Memref sig .tc sp s e} (h : m.IsWhole) (x : s.Idx → Elt F e)
    {off : Fin s.rank → ℕ} (inb : ∀ a, off a + s.size a ≤ s.size a) :
    m.view.readAt (Elt F) (Rect.unit off s.size inb).toLoadRect (h.unread x) = x :=
  (View.readAt_full _ _ inb).trans (h.read_unread x)

set_option maxHeartbeats 1000000 in
/-- The first step: the weights are converted, the epilogue runs on whatever the scratch held, then the block's
    logits and positions are left in scratch. -/
theorem run_first (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S8x1024 .bf16) (harg3 : arg3.IsWhole) (arg4 : Memref sig .tc .vmem S3x2048 .f32) (harg4 : arg4.IsWhole) (arg5 : Memref sig .tc .vmem S2048 .i32) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S1x2048 .i32) (harg8 : arg8.IsWhole)
    (hc0 : isFirst i) (hc1 : isBusy i)
    (x0 : Vec F S2048x1024 .f32) (x1 : Vec F S1024x1024 .f32) (x2 : Vec F S8x1024 .bf16) (o3 : Vec F S3x2048 .f32) (o4 : Vec F S2048 .i32)
    (b : Vec F S1024x1024 .bf16) (l : Vec F S8x2048 .f32) (x : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4
        ∗ owns (c : Thread nD τ) arg6 fullShare b ∗ owns (c : Thread nD τ) arg7 fullShare l ∗ owns (c : Thread nD τ) arg8 fullShare x
        ∗ (iprop(owns (c : Thread nD τ) arg1 fullShare x0 ∗ owns (c : Thread nD τ) arg2 fullShare x1 ∗ owns (c : Thread nD τ) arg3 fullShare x2
            ∗ owns (c : Thread nD τ) arg4 fullShare (probsBlk l x) ∗ owns (c : Thread nD τ) arg5 fullShare (doneBlk x)
            ∗ owns (c : Thread nD τ) arg6 fullShare (k0_pay4 x1) ∗ owns (c : Thread nD τ) arg7 fullShare (k0_pay2 x0 (k0_pay4 x1) x2)
            ∗ owns (c : Thread nD τ) arg8 fullShare (k0_pay3 x0)) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | sl_exact hc0 | sl_exact hc1)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    rw [View.read_writes_full]
    sl_unfold_run_names
    rw [load_whole harg7, load_whole harg8]; rfl
  isplitl [H4]
  · iexists _; isplitr; swap; · iexact H4
    ipureintro
    rw [View.read_writes_full]
    sl_unfold_run_names
    rw [load_whole harg8]; rfl
  isplitl [H5]
  · iexists _; isplitr; swap; · iexact H5
    ipureintro
    sl_unfold_run_names
    rw [View.read_writes_full, load_whole harg2]
  isplitl [H6]
  · iexists _; isplitr; swap; · iexact H6
    ipureintro
    rw [View.read_writes_full]
    sl_unfold_run_names
    rw [load_whole harg1, load_whole harg3, View.readCov_full, load_whole harg2]
  iexists _; isplitr; swap; · iexact H7
  ipureintro
  rw [View.read_writes_full]
  sl_unfold_run_names
  rw [load_whole harg1]

set_option maxHeartbeats 1000000 in
/-- A middle step: the epilogue finishes the block before, then this block's logits and positions are left in scratch. -/
theorem run_mid (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S8x1024 .bf16) (harg3 : arg3.IsWhole) (arg4 : Memref sig .tc .vmem S3x2048 .f32) (harg4 : arg4.IsWhole) (arg5 : Memref sig .tc .vmem S2048 .i32) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S1x2048 .i32) (harg8 : arg8.IsWhole)
    (hc0 : ¬isFirst i) (hc1 : isBusy i)
    (x0 : Vec F S2048x1024 .f32) (x1 : Vec F S1024x1024 .f32) (x2 : Vec F S8x1024 .bf16) (o3 : Vec F S3x2048 .f32) (o4 : Vec F S2048 .i32)
    (b : Vec F S1024x1024 .bf16) (l : Vec F S8x2048 .f32) (x : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4
        ∗ owns (c : Thread nD τ) arg6 fullShare b ∗ owns (c : Thread nD τ) arg7 fullShare l ∗ owns (c : Thread nD τ) arg8 fullShare x
        ∗ (iprop(owns (c : Thread nD τ) arg1 fullShare x0 ∗ owns (c : Thread nD τ) arg2 fullShare x1 ∗ owns (c : Thread nD τ) arg3 fullShare x2
            ∗ owns (c : Thread nD τ) arg4 fullShare (probsBlk l x) ∗ owns (c : Thread nD τ) arg5 fullShare (doneBlk x)
            ∗ owns (c : Thread nD τ) arg6 fullShare b ∗ owns (c : Thread nD τ) arg7 fullShare (k0_pay2 x0 b x2)
            ∗ owns (c : Thread nD τ) arg8 fullShare (k0_pay3 x0)) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | sl_exact hc0 | sl_exact hc1)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    rw [View.read_writes_full]
    sl_unfold_run_names
    rw [load_whole harg7, load_whole harg8]; rfl
  isplitl [H4]
  · iexists _; isplitr; swap; · iexact H4
    ipureintro
    rw [View.read_writes_full]
    sl_unfold_run_names
    rw [load_whole harg8]; rfl
  isplitl [H5]
  · iexists _; isplitr; swap; · iexact H5
    ipureintro
    exact harg6.read_unread _
  isplitl [H6]
  · iexists _; isplitr; swap; · iexact H6
    ipureintro
    rw [View.read_writes_full]
    sl_unfold_run_names
    rw [load_whole harg1, load_whole harg3, load_whole harg6]
  iexists _; isplitr; swap; · iexact H7
  ipureintro
  rw [View.read_writes_full]
  sl_unfold_run_names
  rw [load_whole harg1]

set_option maxHeartbeats 1000000 in
/-- The last step: only the epilogue runs, the scratch stays as it was. -/
theorem run_last (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S8x1024 .bf16) (harg3 : arg3.IsWhole) (arg4 : Memref sig .tc .vmem S3x2048 .f32) (harg4 : arg4.IsWhole) (arg5 : Memref sig .tc .vmem S2048 .i32) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S1x2048 .i32) (harg8 : arg8.IsWhole)
    (hc0 : ¬isFirst i) (hc1 : ¬isBusy i)
    (x0 : Vec F S2048x1024 .f32) (x1 : Vec F S1024x1024 .f32) (x2 : Vec F S8x1024 .bf16) (o3 : Vec F S3x2048 .f32) (o4 : Vec F S2048 .i32)
    (b : Vec F S1024x1024 .bf16) (l : Vec F S8x2048 .f32) (x : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4
        ∗ owns (c : Thread nD τ) arg6 fullShare b ∗ owns (c : Thread nD τ) arg7 fullShare l ∗ owns (c : Thread nD τ) arg8 fullShare x
        ∗ (iprop(owns (c : Thread nD τ) arg1 fullShare x0 ∗ owns (c : Thread nD τ) arg2 fullShare x1 ∗ owns (c : Thread nD τ) arg3 fullShare x2
            ∗ owns (c : Thread nD τ) arg4 fullShare (probsBlk l x) ∗ owns (c : Thread nD τ) arg5 fullShare (doneBlk x)
            ∗ owns (c : Thread nD τ) arg6 fullShare b ∗ owns (c : Thread nD τ) arg7 fullShare l
            ∗ owns (c : Thread nD τ) arg8 fullShare x) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | sl_exact hc0 | sl_exact hc1)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    rw [View.read_writes_full]
    sl_unfold_run_names
    rw [load_whole harg7, load_whole harg8]; rfl
  isplitl [H4]
  · iexists _; isplitr; swap; · iexact H4
    ipureintro
    rw [View.read_writes_full]
    sl_unfold_run_names
    rw [load_whole harg8]; rfl
  isplitl [H5]
  · iexists _; isplitr; swap; · iexact H5
    ipureintro
    exact harg6.read_unread _
  isplitl [H6]
  · iexists _; isplitr; swap; · iexact H6
    ipureintro
    exact harg7.read_unread _
  iexists _; isplitr; swap; · iexact H7
  ipureintro
  exact harg8.read_unread _

end Cert.KernelIdeal.Val

end
-- ==== Proof.KBody.lean ====
/- The kernel's proof data and its body obligation: after the first step the scratch holds the converted weights and the
   last computed block's logits and positions, and every later step writes that block's outputs. -/
module

public import proofs.«01_k».proof.Proof.KRun
public import Idealize.ShloMosaic.Lib.Pipeline.DatRel
public import Idealize.ShloMosaic.Lib.Pipeline.ArrRel

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ)

/-- The windows' current buffers at a point and the three scratch buffers. -/
abbrev wb0 (t : Fin cfg0.N) : Memref sig .tc .vmem S2048x1024 .f32 := win0_0.stage (cfg0.slots t 0)
abbrev wb1 (t : Fin cfg0.N) : Memref sig .tc .vmem S1024x1024 .f32 := win0_1.stage (cfg0.slots t 1)
abbrev wb2 (t : Fin cfg0.N) : Memref sig .tc .vmem S8x1024 .bf16 := win0_2.stage (cfg0.slots t 2)
abbrev wb3 (t : Fin cfg0.N) : Memref sig .tc .vmem S3x2048 .f32 := win0_3.stage (cfg0.slots t 3)
abbrev wb4 (t : Fin cfg0.N) : Memref sig .tc .vmem S2048 .i32 := win0_4.stage (cfg0.slots t 4)
abbrev scW : Memref sig .tc .vmem S1024x1024 .bf16 := Memref.whole cc0_scratch0
abbrev scL : Memref sig .tc .vmem S8x2048 .f32 := Memref.whole cc0_scratch1
abbrev scX : Memref sig .tc .vmem S1x2048 .i32 := Memref.whole cc0_scratch2

/-- The launch's region rest: the three scratch buffers and the generator register at some contents. -/
theorem rest_eq (c : Dev nD) :
    (Pipeline.ΦA spec0 c : sProp 𝕄)
      = iprop(iprop((∃ d, owns (c : Thread nD τ) scW fullShare d) ∗ (∃ d, owns (c : Thread nD τ) scL fullShare d) ∗ (∃ d, owns (c : Thread nD τ) scX fullShare d)) ∗ (∃ r, prngReg c r)) := by
  unfold Pipeline.ΦA; rw [scopedRest0_eq]; simp only [scW, scL, scX, owns_whole]; try rfl

theorem N_eq : cfg0.N = 5 := N_0

/-- The block whose logits and positions the scratch holds after step `n`. -/
def src (n : ℕ) : Fin cfg0.N := ⟨min n 3, lt_of_le_of_lt (Nat.min_le_right n 3) (by rw [N_eq]; omega)⟩

theorem src_of_lt (t : Fin cfg0.N) (h : t.val < 4) : src t.val = t := Fin.ext (by show min t.val 3 = t.val; omega)

/-- The converted first weight matrix. -/
def wts (c : Dev nD) : Vec F S1024x1024 .bf16 := k0_pay4 (iblk m c 1 (src 0))
/-- The logits in scratch after step `n`. -/
def lgs (c : Dev nD) (n : ℕ) : Vec F S8x2048 .f32 := k0_pay2 (iblk m c 0 (src n)) (wts m c) (iblk m c 2 (src n))
/-- The positions in scratch after step `n`. -/
def pos (c : Dev nD) (n : ℕ) : Vec F S1x2048 .i32 := k0_pay3 (iblk m c 0 (src n))

/-- The region invariant before step `n`. -/
def Inv (c : Dev nD) : ℕ → sProp 𝕄
  | 0 => Pipeline.ΦA spec0 c
  | n + 1 => iprop(iprop(owns (c : Thread nD τ) scW fullShare (wts m c) ∗ owns (c : Thread nD τ) scL fullShare (lgs m c n) ∗ owns (c : Thread nD τ) scX fullShare (pos m c n)) ∗ (∃ r, prngReg c r))

theorem Inv_pos (c : Dev nD) (n : ℕ) (h : n ≠ 0) :
    Inv m c n = iprop(iprop(owns (c : Thread nD τ) scW fullShare (wts m c) ∗ owns (c : Thread nD τ) scL fullShare (lgs m c (n - 1)) ∗ owns (c : Thread nD τ) scX fullShare (pos m c (n - 1))) ∗ (∃ r, prngReg c r)) := by
  cases n with
  | zero => exact absurd rfl h
  | succ n => rfl

/-- The windows of the two results, whose first step's contents nothing names. -/
def outW : Fin 5 → Bool := fun w => w.val == 3 || w.val == 4

/-- The proof data: the arrays as the region finds them, the inputs' buffers left in place, the outputs' at the block
    the step before prepared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => probsBlk (lgs m c (t.val - 1)) (pos m c (t.val - 1))
    | ⟨4, _⟩ => doneBlk (pos m c (t.val - 1))
  Φ t := Inv m c t.val
  q _ := fullShare
  owed _ := 0

/-- What is known of an output's buffer after step `t`: nothing at the first step, the named block afterwards. -/
def Rl (c : Dev nD) (w : Fin cfg0.W) (t : Fin cfg0.N) (X : (cfg0.win w).block.Idx → Elt F (cfg0.win w).elt) : Prop :=
  t.val = 0 ∨ X = (dats m 0 c).after w t

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = probsBlk (lgs m c (t.val - 1)) (pos m c (t.val - 1)) := by dsimp only [dats]
theorem after_4 (c : Dev nD) (t : Fin cfg0.N) : (dats m 0 c).after 4 t = doneBlk (pos m c (t.val - 1)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at step `t`, window by window. -/
def stepPre (c : Dev nD) (t : Fin cfg0.N) : sProp 𝕄 :=
  iprop(Inv m c t.val ∗ (dats m 0 c).owesAt () t.castSucc
    ∗ (∃ d, owns (c : Thread nD τ) (wb0 t) fullShare ((dats m 0 c).before 0 t d))
    ∗ (∃ d, owns (c : Thread nD τ) (wb1 t) fullShare ((dats m 0 c).before 1 t d))
    ∗ (∃ d, owns (c : Thread nD τ) (wb2 t) fullShare ((dats m 0 c).before 2 t d))
    ∗ (∃ d, owns (c : Thread nD τ) (wb3 t) fullShare d)
    ∗ (∃ d, owns (c : Thread nD τ) (wb4 t) fullShare d))

/-- And what it gives back. -/
def stepPost (c : Dev nD) (t : Fin cfg0.N) : sProp 𝕄 :=
  iprop(Inv m c (t.val + 1) ∗ (dats m 0 c).owesAt () t.succ
    ∗ owns (c : Thread nD τ) (wb0 t) fullShare ((dats m 0 c).after 0 t)
    ∗ owns (c : Thread nD τ) (wb1 t) fullShare ((dats m 0 c).after 1 t)
    ∗ owns (c : Thread nD τ) (wb2 t) fullShare ((dats m 0 c).after 2 t)
    ∗ (∃ X, ⌜Rl m c 3 t X⌝ ∗ owns (c : Thread nD τ) (wb3 t) fullShare X)
    ∗ (∃ X, ⌜Rl m c 4 t X⌝ ∗ owns (c : Thread nD τ) (wb4 t) fullShare X))

/-- Handing a step's named contents back as the invariant and the output's relation. -/
theorem post_of (c : Dev nD) (t : Fin cfg0.N) (b : Vec F S1024x1024 .bf16) (l l' : Vec F S8x2048 .f32) (x x' : Vec F S1x2048 .i32)
    (hb : b = wts m c) (hl : l' = lgs m c t.val) (hx : x' = pos m c t.val)
    (h3 : t.val = 0 ∨ (l = lgs m c (t.val - 1) ∧ x = pos m c (t.val - 1))) :
    iprop((∃ r, prngReg c r) ∗ (dats m 0 c).owesAt () t.castSucc
        ∗ owns (c : Thread nD τ) (wb0 t) fullShare (iblk m c 0 t) ∗ owns (c : Thread nD τ) (wb1 t) fullShare (iblk m c 1 t) ∗ owns (c : Thread nD τ) (wb2 t) fullShare (iblk m c 2 t)
        ∗ owns (c : Thread nD τ) (wb3 t) fullShare (probsBlk l x) ∗ owns (c : Thread nD τ) (wb4 t) fullShare (doneBlk x)
        ∗ owns (c : Thread nD τ) scW fullShare b ∗ owns (c : Thread nD τ) scL fullShare l' ∗ owns (c : Thread nD τ) scX fullShare x')
      ⊢ stepPost m c t := by
  subst hb hl hx
  unfold stepPost
  rw [show (dats m 0 c).owesAt () t.succ = (dats m 0 c).owesAt () t.castSucc from rfl, after_0, after_1, after_2,
    show Inv m c (t.val + 1) = _ from Inv_pos m c _ (Nat.succ_ne_zero _), Nat.add_sub_cancel]
  iintro ⟨Hg, Ho, H0, H1, H2, H3, H4, HW, HL, HX⟩
  isplitl [Hg HW HL HX]
  · isplitl [HW HL HX]
    · isplitl [HW]; · iexact HW
      isplitl [HL]; · iexact HL
      iexact HX
    iexact Hg
  isplitl [Ho]; · iexact Ho
  isplitl [H0]; · iexact H0
  isplitl [H1]; · iexact H1
  isplitl [H2]; · iexact H2
  isplitl [H3]
  · iexists _; isplitr; swap; · iexact H3
    ipureintro
    exact h3.imp_right fun h => by rw [after_3, h.1, h.2]
  iexists _; isplitr; swap; · iexact H4
  ipureintro
  exact h3.imp_right fun h => by rw [after_4, h.2]

set_option maxHeartbeats 4000000 in
/-- The body at any step. -/
theorem step_sound (c : Dev nD) (t : Fin cfg0.N) :
    stepPre m c t ⊢ wp frame (wpE (defs₀ (F := F)) Variants.none c none) Set.univ (bodyAt0 t) (fun _ => stepPost m c t) := by
  have hN : t.val < 5 := lt_of_lt_of_eq t.isLt N_eq
  unfold stepPre bodyAt0
  simp only [before_0, before_1, before_2]
  by_cases h0 : t.val = 0
  · have hs : src 0 = t := by rw [← h0]; exact src_of_lt t (by omega)
    have hs' : src t.val = t := src_of_lt t (by omega)
    rw [show Inv m c t.val = Pipeline.ΦA spec0 c from by rw [h0]; rfl, rest_eq]
    iintro ⟨⟨⟨⟨%b, HW⟩, ⟨%l, HL⟩, ⟨%x, HX⟩⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _ ((isFirst_iff t).mpr h0) ((isBusy_iff t).mpr (by omega)) (iblk m c 0 t) (iblk m c 1 t) (iblk m c 2 t) d3 d4 b l x Set.univ _)
    isplitl [H0]; · iexact H0
    isplitl [H1]; · iexact H1
    isplitl [H2]; · iexact H2
    isplitl [H3]; · iexact H3
    isplitl [H4]; · iexact H4
    isplitl [HW]; · iexact HW
    isplitl [HL]; · iexact HL
    isplitl [HX]; · iexact HX
    iintro ⟨H0, H1, H2, H3, H4, HW, HL, HX⟩
    iapply (post_of m c t _ _ _ _ _ (by unfold wts; rw [hs]) (by unfold lgs wts; rw [hs, hs']) (by unfold pos; rw [hs']) (Or.inl h0))
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [HW]; · iexact HW
    isplitl [HL]; · iexact HL
    iexact HX
  · rw [Inv_pos m c _ h0]
    have hlast : ¬t.val < 4 → src (t.val - 1) = src t.val := fun h => Fin.ext (by show min (t.val - 1) 3 = min t.val 3; omega)
    by_cases h1 : t.val < 4
    · have hs' : src t.val = t := src_of_lt t h1
      iintro ⟨⟨⟨HW, HL, HX⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ _ _ _ _ (fun h => h0 ((isFirst_iff t).mp h)) ((isBusy_iff t).mpr h1) (iblk m c 0 t) (iblk m c 1 t) (iblk m c 2 t) d3 d4 (wts m c) (lgs m c (t.val - 1)) (pos m c (t.val - 1)) Set.univ _)
      isplitl [H0]; · iexact H0
      isplitl [H1]; · iexact H1
      isplitl [H2]; · iexact H2
      isplitl [H3]; · iexact H3
      isplitl [H4]; · iexact H4
      isplitl [HW]; · iexact HW
      isplitl [HL]; · iexact HL
      isplitl [HX]; · iexact HX
      iintro ⟨H0, H1, H2, H3, H4, HW, HL, HX⟩
      iapply (post_of m c t _ _ _ _ _ rfl (by unfold lgs; rw [hs']) (by unfold pos; rw [hs']) (Or.inr ⟨rfl, rfl⟩))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [HW]; · iexact HW
      isplitl [HL]; · iexact HL
      iexact HX
    · iintro ⟨⟨⟨HW, HL, HX⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ _ _ _ _ (fun h => h0 ((isFirst_iff t).mp h)) (fun h => h1 ((isBusy_iff t).mp h)) (iblk m c 0 t) (iblk m c 1 t) (iblk m c 2 t) d3 d4 (wts m c) (lgs m c (t.val - 1)) (pos m c (t.val - 1)) Set.univ _)
      isplitl [H0]; · iexact H0
      isplitl [H1]; · iexact H1
      isplitl [H2]; · iexact H2
      isplitl [H3]; · iexact H3
      isplitl [H4]; · iexact H4
      isplitl [HW]; · iexact HW
      isplitl [HL]; · iexact HL
      isplitl [HX]; · iexact HX
      iintro ⟨H0, H1, H2, H3, H4, HW, HL, HX⟩
      iapply (post_of m c t _ _ _ _ _ rfl (show lgs m c (t.val - 1) = lgs m c t.val by unfold lgs; rw [hlast h1]) (show pos m c (t.val - 1) = pos m c t.val by unfold pos; rw [hlast h1]) (Or.inr ⟨rfl, rfl⟩))
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [HW]; · iexact HW
      isplitl [HL]; · iexact HL
      iexact HX

theorem body_row (t : Fin cfg0.N) : defs₀ (F := F) .tc cfg0.body (cfg0.bodyArgs t (cfg0.slots t)) = bodyAt0 t := by
  unfold defs₀; rw [Defs.onTc_tc]

/-- The library's body obligation with the two outputs held to `Rl`. -/
theorem body_ok (c : Dev nD) :
    Pipeline.BodyObligationRel (dats (F := F) m 0 c) (defs₀ (F := F)) Variants.none () Set.univ outW (Rl m c) := fun t => by
  rw [bigSep_W0, bigSep_W0, body_row]
  refine triple_restated (step_sound m c t) rfl ?_ fun _ => Idealize.SL.BI.Entails.refl _
  show iprop(Inv m c t.val ∗ (dats m 0 c).owesAt () t.castSucc
      ∗ (∃ d, owns (c : Thread nD τ) (wb0 t) fullShare ((dats m 0 c).before 0 t d))
      ∗ (∃ d, owns (c : Thread nD τ) (wb1 t) fullShare ((dats m 0 c).before 1 t d))
      ∗ (∃ d, owns (c : Thread nD τ) (wb2 t) fullShare ((dats m 0 c).before 2 t d))
      ∗ (∃ Y, ⌜((dats m 0 c).toRRel outW (Rl m c)).Finds 3 t Y⌝ ∗ owns (c : Thread nD τ) (wb3 t) fullShare Y)
      ∗ (∃ Y, ⌜((dats m 0 c).toRRel outW (Rl m c)).Finds 4 t Y⌝ ∗ owns (c : Thread nD τ) (wb4 t) fullShare Y)) ⊢ stepPre m c t
  unfold stepPre
  iintro ⟨Hi, Ho, H0, H1, H2, ⟨%Y3, -, H3⟩, ⟨%Y4, -, H4⟩⟩
  isplitl [Hi]; · iexact Hi
  isplitl [Ho]; · iexact Ho
  isplitl [H0]; · iexact H0
  isplitl [H1]; · iexact H1
  isplitl [H2]; · iexact H2
  isplitl [H3]; · iexists Y3; iexact H3
  iexists Y4; iexact H4

theorem inv_in (c : Dev nD) : Pipeline.ΦA spec0 c ⊢ (dats m 0 c).Φ 0 :=
  (Idealize.SL.BI.Entails.refl _ : Pipeline.ΦA spec0 c ⊢ Inv m c 0)

theorem inv_out (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last, N_eq]; omega), rest_eq]
  iintro ⟨⟨HW, HL, HX⟩, Hg⟩
  isplitl [HW HL HX]
  · isplitl [HW]
    · iexists _; iexact HW
    isplitl [HL]
    · iexists _; iexact HL
    iexists _; iexact HX
  iexact Hg

/-- The relational proof data the run is stated over. -/
def rdats (c : Dev nD) : Pipeline.RDat τ (Elt F) Unit ℕ (UR sig nD τ) ℕ cfg0 c := (dats m 0 c).toRRel outW (Rl m c)

theorem rdats_after (c : Dev nD) : (rdats m c).withAfter (dats m 0 c).after = dats m 0 c := rfl

theorem flush_pos : ∀ (w : Fin cfg0.W) (u : Fin cfg0.N), outW w = true → (cfg0.win w).flush u = true → u.val ≠ 0 :=
  (by decide +kernel : ∀ (w : Fin cfg0.W) (u : Fin grid0.N), outW w = true → (cfg0.win w).flush u = true → u.val ≠ 0)

/-- What an array may hold after the run is what the exact data name: an output is written back after the first step
    only, an input never. -/
theorem arr_exact (c : Dev nD) (w : Fin cfg0.W) (G : Buf (Elt F) ((cfg0.win w).arr.view.loc (c.tc : Thread nD τ)))
    (hG : (rdats m c).ArrAt w cfg0.N G) : G = (dats m 0 c).arrAt w cfg0.N := by
  by_cases hw : outW w = true
  · obtain ⟨X, hX, hA⟩ := hG.exists_exact
    have e := hA (dats m 0 c).after fun u hu hf =>
      (((dats m 0 c).toRRel_leaves hw (hX u hu hf)).resolve_left (flush_pos w u hw hf)).symm
    rw [rdats_after] at e
    exact e
  · have hin : (cfg0.win w).isOut = false :=
      (by decide : ∀ w : Fin cfg0.W, ¬outW w = true → (cfg0.win w).isOut = false) w hw
    rw [(rdats m c).ArrAt_in w hin cfg0.N] at hG
    exact hG.trans ((dats m 0 c).arrAt_in w hin _).symm

end Cert.KernelIdeal.Val

end
-- ==== Proof.KLaunch.lean ====
/- The launch: @main runs to a state in which every array holds what the proof data name and every other buffer what
   the host lines after the region compute from the arrays; every counter ends at zero. -/
module

public import proofs.«01_k».proof.Proof.KBody
public import Idealize.ShloMosaic.Lib.Pipeline.FrameSuffix
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays after the run are held as the exact data name them, and that is what they may hold. -/
theorem arrays_out (c : Dev nD) :
    ((rdats (F := F) m c).arraysAt cfg0.N : sProp 𝕄)
      ⊢ iprop(⌜∀ w, (rdats (F := F) m c).ArrAt w cfg0.N ((dats m 0 c).arrAt w cfg0.N)⌝
          ∗ (rdats m c).arrays fun w => (dats m 0 c).arrAt w cfg0.N) := by
  unfold RDat.arraysAt
  iintro Ha
  ihave Ha' := (BI.bigSep_exists_pi Finset.univ (fun w G => iprop(⌜(rdats (F := F) m c).ArrAt w cfg0.N G⌝
      ∗ ((cfg0).win w).arr.view.loc (c.tc : Thread nD τ) ↦[((cfg0).win w).arr.view.set]{(rdats (F := F) m c).share w} G))) $$ Ha
  icases Ha' with ⟨%A, Ha⟩
  ihave Ha2 := (BI.bigSep_pure_sep Finset.univ (fun w => (rdats (F := F) m c).ArrAt w cfg0.N (A w))
      (fun w => ((cfg0).win w).arr.view.loc (c.tc : Thread nD τ) ↦[((cfg0).win w).arr.view.set]{(rdats (F := F) m c).share w} A w)) $$ Ha
  icases Ha2 with ⟨%hA', Ha⟩
  obtain rfl : A = fun w => (dats m 0 c).arrAt w cfg0.N := funext fun w => arr_exact m c w _ (hA' w (Finset.mem_univ w))
  isplitr; · ipureintro; exact fun w => hA' w (Finset.mem_univ w)
  unfold RDat.arrays
  iexact Ha

/-- And closed again. -/
theorem arrays_in (c : Dev nD) (h : ∀ w, (rdats m c).ArrAt w cfg0.N ((dats m 0 c).arrAt w cfg0.N)) :
    ((rdats (F := F) m c).arrays (fun w => (dats m 0 c).arrAt w cfg0.N) : sProp 𝕄) ⊢ (rdats m c).arraysAt cfg0.N := by
  unfold RDat.arraysAt RDat.arrays
  refine BI.bigSep_mono fun w _ => ?_
  show ((cfg0.win w).arr.view.loc (c.tc : Thread nD τ) ↦[(cfg0.win w).arr.view.set]{(rdats (F := F) m c).share w} (dats m 0 c).arrAt w cfg0.N : sProp 𝕄)
    ⊢ iprop(∃ G, ⌜(rdats m c).ArrAt w cfg0.N G⌝ ∗ (cfg0.win w).arr.view.loc (c.tc : Thread nD τ) ↦[(cfg0.win w).arr.view.set]{(rdats (F := F) m c).share w} G)
  iintro H
  iexists _; isplitr; swap; · iexact H
  ipureintro; exact h w

-- the launch theorem's implicit arguments are found by unifying its conclusion with this one, which takes unfolding plain
-- definitions in a metavariable's type
set_option backward.isDefEq.respectTransparency.types false in
set_option maxHeartbeats 1600000 in
/-- @main's run: the arrays at the exact data's contents, every other buffer at what the lines after the region leave, the
    counters at zero. -/
theorem run_main : θ_run defs (onTc (τ := τ) (main (F := F))) (s₀ m ρ) (fun r =>
    FramePost cfgs (dats m) 0 (afterTail₀ cfgs (dats m) 0 (V0 m) [hostOps1]) r ∧ r.2.sem = fun _ => 0) := by
  classical
  have k0 := launch0.toP (Val := Elt F)
  have kit₀ := k0.to₀
  exact RDat.θ_run_region_pf_tail_quiescent pcfgs (fun p => (cfgs p).toPCfg_adm) (RDat.familyOf pcfgs (fun p => (cfgs p).toPCfg_adm) 0 (rdats m)) () (kit₀.cellOf_inj _) 0
    kit₀.win (OwnSemFacts.none spec0) kit₀.pre emb₁ defs₀ Variants.none m ρ main
    (fun _ => chain ([hostOps1].map StableHlo.seq)) (fun c => by rw [RDat.familyOf_self]; exact (body_ok m c).toRRel)
    kit₀.block_pos kit₀.arr_whole kit₀.stage_whole (fun c t => by rw [RDat.familyOf_self]; rfl)
    (G := fun _ => iprop(emp)) (u₀ := initOf (cells (pin pcfgs (fun p => (cfgs p).toPCfg_adm)) (kit₀.cellOf_inj _)) (launchToks (pin pcfgs (fun p => (cfgs p).toPCfg_adm)) (kit₀.cellOf_inj _)))
    (hu₀ := by
      iintro Hu; imodintro
      isplitl [Hu]; · iapply (show (ownU _ : sProp 𝕄) ⊢ BI.own (emb₁ (initOf (cells (pin pcfgs (fun p => (cfgs p).toPCfg_adm)) (kit₀.cellOf_inj _)) (launchToks (pin pcfgs (fun p => (cfgs p).toPCfg_adm)) (kit₀.cellOf_inj _)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]
      exact RDat.arrays_split₁ pcfgs (fun p => (cfgs p).toPCfg_adm) 0 (rdats m) launch0.win.arr_inj c kit₀.arr_whole (fun w => (dats m 0 c).share_full (fun _ => rfl) w) (V m c) _ (A_eq m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcfgs (F := F) 0).pre spec0 c (V m c))
    (Z' := fun c => unscopedRestP (Ix := Unit) (Name := ℕ) (U := UR sig nD τ) (Lvl := ℕ) (pcfgs (F := F) 0).pre spec0 c (afterTail₀ cfgs (dats m) 0 (V0 m) [hostOps1] c))
    (hX := fun c => by
      iintro ⟨HU, -, -, Hp, -⟩; imodintro
      isplitl [Hp]; · iexists _; iexact Hp
      iexact HU)
    (hin := fun c => by
      rw [RDat.familyOf_self]
      exact (show _ ⊢ ΦA spec0 c by
        unfold ΦA; iintro ⟨Hp, Ht, Hr⟩
        isplitl [Hr] <;> iassumption).trans (inv_in m c))
    (hout := fun c => by
      rw [RDat.familyOf_self]
      exact (inv_out m c).trans (by
        rw [ownSems0_none]; unfold ΦA
        iintro ⟨Hr, Hp⟩
        isplitl [Hp]; · iexact Hp
        isplitr; · iempintro
        iexact Hr))
    (htail := fun c Q' => by
      rw [RDat.familyOf_self]
      iintro ⟨Hk, Hb, Ha, HZ⟩
      ihave Ha' := (arrays_out m c) $$ Ha
      icases Ha' with ⟨%hA', Ha⟩
      have hB : ((rdats (F := F) m c).arrays fun w => (dats m 0 c).arrAt w cfg0.N)
          = arrBufs spec0 c (fun b => withArrays spec0 c (V0 m c) (fun w => (dats m 0 c).arrAt w cfg0.N) (Proc.devRef .tc b)) :=
        ((rdats m c).arrBufs_eq_arrays kit₀.sharedIn kit₀.arr_whole (fun w hw => (dats m 0 c).q_eq_shareOf_of_share_full launch0.win.arr_inj (fun w => (dats m 0 c).share_full (fun _ => rfl) w) w hw) _ _ fun w =>
          (withArrays_arr spec0 launch0.win.arr_inj c (V0 m c) (fun w => (dats m 0 c).arrAt w cfg0.N) w).symm).symm
      iapply (tail_seqs_bufs_b pcfgs defs₀ Variants.none (pcfgs (F := F) 0).pre spec0 c (V0 m c) (fun w => (dats m 0 c).arrAt w cfg0.N) [hostOps1] sfx_sub sfx_fresh sfx_keeps Q')
      isplitl [Hk]
      · iintro ⟨Hb2, Ha2, Hu⟩
        iapply Hk
        isplitl [Hb2]; · iexact Hb2
        isplitl [Ha2]; · iapply (arrays_in m c hA'); iapply (Entails.of_eq hB.symm); iexact Ha2
        iexact Hu
      · isplitl [Hb]; · iexact Hb
        isplitl [Ha]; · iapply (Entails.of_eq hB); iexact Ha
        iexact HZ)
    (QY := fun c s => ∀ b ∈ restRefsP sig (pcfgs (F := F) 0).pre spec0, s.mem ((c.tc : Thread nD τ).loc b) = afterTail₀ cfgs (dats m) 0 (V0 m) [hostOps1] c b)
    (hY := fun c s' => by
      iintro ⟨-, HU, HSI⟩
      unfold unscopedRestP
      imodintro
      iapply (pointsTo_read_all (restRefsP sig (pcfgs (F := F) 0).pre spec0) (fun b => (c.tc : Thread nD τ).loc b) (afterTail₀ cfgs (dats m) 0 (V0 m) [hostOps1] c) s')
      isplitl [HU] <;> iassumption)
    (hQ := fun s h hz => ⟨fun c => ⟨fun w => arr_exact m c w _ (by simpa only [RDat.familyOf_self] using (h c).1 w),
      rest_of_restP (pcfgs (F := F) 0).pre spec0 ((fun p => (cfgs p).toPCfg_adm) 0).1 c (afterTail₀ cfgs (dats m) 0 (V0 m) [hostOps1] c) s (fun k => k.elim0) (h c).2.1 (h c).2.2⟩, hz⟩)

/-- The argument arrays end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val

end
-- ==== Proof.RefRun.lean ====
/- The reference's run: what its two results hold, as functions of its arguments. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead

@[expose] public section

set_option maxRecDepth 16384

noncomputable section

namespace Cert.ReferenceIdeal.Val

open Cert.ReferenceIdeal.Gen
open Idealize.ShloMosaic Idealize.ShloMosaic.TcCoe Idealize.ShloMosaic.Tactic
open Idealize.SL Idealize.SL.Sem

variable {F : FTy → Type} [FloatOps F]

/-- The logits: two dense layers with a rectifier between them. -/
def logits (s : Vec F S8192x1024 .f32) (w1 : Vec F S1024x1024 .f32) (b1 : Vec F S1024 .f32) (w2 : Vec F S1024x3 .f32) (b2 : Vec F S3 .f32) : Vec F S8192x3 .f32 :=
  addf (Host.dotGeneral dot_S8192x1024_S1024x3_S8192x3_1_0_0_1_n_n none
      (maximumf (addf (Host.dotGeneral dot_S8192x1024_S1024x1024_S8192x1024_1_0_0_1_n_n none s w1)
          (broadcastInDim S8192x1024 ![0, 1] bcast_S1x1024_S8192x1024_0_1 (broadcastInDim S1x1024 ![1] bcast_S1024_S1x1024_1 b1)))
        (broadcastInDim S8192x1024 ![] bcast_S_S8192x1024 (constant S_ .f32 0x00000000#32))) w2)
    (broadcastInDim S8192x3 ![0, 1] bcast_S1x3_S8192x3_0_1 (broadcastInDim S1x3 ![1] bcast_S3_S1x3_1 b2))

/-- A row of three filled with one value per row. -/
def perRow (x : Vec F S8192 .f32) : Vec F S8192x3 .f32 :=
  broadcastInDim S8192x3 ![0, 1] bcast_S8192x1_S8192x3_0_1 (broadcastInDim S8192x1 ![0] bcast_S8192_S8192x1_0 x)

/-- The exponentials of the logits less the row's largest. -/
def expo (l : Vec F S8192x3 .f32) : Vec F S8192x3 .f32 :=
  Host.exp (subf l (perRow (maximumf (broadcastInDim S8192 ![] bcast_S_S8192 (constant S_ .f32 0xFF800000#32))
    (Host.reduce FloatOps.maximumf l (constant S_ .f32 0xFF800000#32) reducesTo_S8192x3_S8192_d1 h_S_))))

/-- Each row over its sum. -/
def overSum (e : Vec F S8192x3 .f32) : Vec F S8192x3 .f32 :=
  Host.divf e (perRow (Host.reduceAdd e (constant S_ .f32 0x00000000#32) reducesTo_S8192x3_S8192_d1 h_S_))

/-- The position of each row's largest entry. -/
def argPos (s : Vec F S8192x1024 .f32) : IVec S8192 32 := fun j =>
  (Host.argReduce reducer_argmax_f32_i32 s (iotaInDim S8192x1024 32 1) (constant S_ .f32 0xFF800000#32) (constantI S_ 32 0#32) reducesTo_S8192x1024_S8192_d1 h_S_ j).2

/-- One word in every row. -/
def fill (a : IVec S_ 32) : IVec S8192 32 := broadcastInDim S8192 ![] bcast_S_S8192 a

/-- The divisor of the remainder: the given one, or one where that is zero. -/
def safe (a : IVec S_ 32) : IVec S_ 32 := select (cmpi .eq a (constantI S_ 32 0#32)) (constantI S_ 32 1#32) a

/-- The remainder with the divisor's sign. -/
def remOf (n : IVec S8192 32) (d : IVec S_ 32) : IVec S8192 32 :=
  select (andi (cmpi .ne (cmpi .slt (Host.remsi n (fill d)) (fill (constantI S_ 32 0#32)))
      (broadcastInDim S8192 ![] bcast_S_S8192 (cmpi .slt d (constantI S_ 32 0#32))))
      (cmpi .ne (Host.remsi n (fill d)) (fill (constantI S_ 32 0#32))))
    (addi (Host.remsi n (fill d)) (fill d)) (Host.remsi n (fill d))

/-- The quotient rounded down. -/
def quotOf (n : IVec S8192 32) (d : IVec S_ 32) : IVec S8192 32 :=
  select (andi (cmpi .ne (signi n) (fill (signi d))) (cmpi .ne (Host.remsi n (fill d)) (fill (constantI S_ 32 0#32))))
    (subi (Host.divsi n (fill d)) (fill (constantI S_ 32 1#32))) (Host.divsi n (fill d))

def colOf (p : IVec S8192 32) : IVec S8192 32 := remOf p (safe (constantI S_ 32 32#32))
def rowOf (p : IVec S8192 32) : IVec S8192 32 := quotOf p (constantI S_ 32 32#32)

/-- The mask of allowed moves: down, right, and stay. -/
def maskOf (p : IVec S8192 32) : Vec F S8192x3 .f32 :=
  concatenate S8192x3 1 [⟨S8192x1, broadcastInDim S8192x1 ![0] bcast_S8192_S8192x1_0 (uitofp .f32 (cmpi .slt (rowOf p) (fill (constantI S_ 32 31#32))))⟩,
    ⟨S8192x1, broadcastInDim S8192x1 ![0] bcast_S8192_S8192x1_0 (uitofp .f32 (cmpi .slt (colOf p) (fill (constantI S_ 32 31#32))))⟩,
    ⟨S8192x1, broadcastInDim S8192x1 ![0] bcast_S8192_S8192x1_0 (broadcastInDim S8192 ![] bcast_S_S8192 (constant S_ .f32 0x3F800000#32))⟩]
    concatenates_S8192x1_S8192x1_S8192x1_S8192x3_d1

/-- The second result: whether the corner is reached. -/
def doneOf (p : IVec S8192 32) : IVec S8192 1 :=
  andi (cmpi .eq (colOf p) (fill (constantI S_ 32 31#32))) (cmpi .eq (rowOf p) (fill (constantI S_ 32 31#32)))

/-- The masked weights before the last division. -/
def masked (l : Vec F S8192x3 .f32) (p : IVec S8192 32) : Vec F S8192x3 .f32 :=
  mulf (maskOf p) (addf (overSum (expo l)) (broadcastInDim S8192x3 ![] bcast_S_S8192x3 (constant S_ .f32 0x322BCC77#32)))

/-- The first result. -/
def probsOf (l : Vec F S8192x3 .f32) (p : IVec S8192 32) : Vec F S8192x3 .f32 := overSum (masked l p)

variable (m : (ℓ : Loc nD τ sig) → Buf (Elt F) ℓ) (ρ : Dev nD → PrngReg)

abbrev lgOf (c : Dev nD) : Vec F S8192x3 .f32 :=
  logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The first dense layer's lines. -/
abbrev hidOps : List (HloOp τ sig (Elt F)) := [
  StableHlo.binary main_arg0 main_arg1 main_v0 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
  StableHlo.unary main_arg2 main_v1 (broadcastInDim S1x1024 ![1] bcast_S1024_S1x1024_1 : (⟨S1024, .f32⟩ : BufTy).Contents (Elt F) → (⟨S1x1024, .f32⟩ : BufTy).Contents (Elt F)),
  StableHlo.unary main_v1 main_v2 (broadcastInDim S8192x1024 ![0, 1] bcast_S1x1024_S8192x1024_0_1 : (⟨S1x1024, .f32⟩ : BufTy).Contents (Elt F) → (⟨S8192x1024, .f32⟩ : BufTy).Contents (Elt F)),
  StableHlo.binary main_v0 main_v2 main_v3 (addf : (⟨S8192x1024, .f32⟩ : BufTy).Contents (Elt F) → (⟨S8192x1024, .f32⟩ : BufTy).Contents (Elt F) → (⟨S8192x1024, .f32⟩ : BufTy).Contents (Elt F))]

/-- The rectifier's lines. -/
abbrev reluOps : List (HloOp τ sig (Elt F)) := [
  StableHlo.TRef.nullary main_call0.cst (constant S_ .f32 0x00000000#32),
  StableHlo.TRef.unary main_call0.cst main_call0.v0 (broadcastInDim S8192x1024 ![] bcast_S_S8192x1024),
  StableHlo.TRef.binary (StableHlo.TRef.of main_v3) main_call0.v0 main_call0.v1 maximumf]

/-- The second dense layer's lines. -/
abbrev logOps : List (HloOp τ sig (Elt F)) := [
  StableHlo.binary main_v4 main_arg3 main_v5 ((fun l r => Host.dotGeneral dot_S8192x1024_S1024x3_S8192x3_1_0_0_1_n_n none l r) : (⟨S8192x1024, .f32⟩ : BufTy).Contents (Elt F) → (⟨S1024x3, .f32⟩ : BufTy).Contents (Elt F) → (⟨S8192x3, .f32⟩ : BufTy).Contents (Elt F)),
  StableHlo.unary main_arg4 main_v6 (broadcastInDim S1x3 ![1] bcast_S3_S1x3_1 : (⟨S3, .f32⟩ : BufTy).Contents (Elt F) → (⟨S1x3, .f32⟩ : BufTy).Contents (Elt F)),
  StableHlo.unary main_v6 main_v7 (broadcastInDim S8192x3 ![0, 1] bcast_S1x3_S8192x3_0_1 : (⟨S1x3, .f32⟩ : BufTy).Contents (Elt F) → (⟨S8192x3, .f32⟩ : BufTy).Contents (Elt F)),
  StableHlo.binary main_v5 main_v7 main_v8 (addf : (⟨S8192x3, .f32⟩ : BufTy).Contents (Elt F) → (⟨S8192x3, .f32⟩ : BufTy).Contents (Elt F) → (⟨S8192x3, .f32⟩ : BufTy).Contents (Elt F))]

/-- The softmax's lines. -/
abbrev softOps : List (HloOp τ sig (Elt F)) := [
  StableHlo.nullary main_cst (constant S_ .f32 0xFF800000#32),
  StableHlo.binary main_v8 main_cst main_v9 ((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)),
  StableHlo.nullary main_cst_0 (constant S_ .f32 0xFF800000#32),
  StableHlo.unary main_cst_0 main_v10 (broadcastInDim S8192 ![] bcast_S_S8192 : (⟨S_, .f32⟩ : BufTy).Contents (Elt F) → (⟨S8192, .f32⟩ : BufTy).Contents (Elt F)),
  StableHlo.binary main_v10 main_v9 main_v11 (maximumf : (⟨S8192, .f32⟩ : BufTy).Contents (Elt F) → (⟨S8192, .f32⟩ : BufTy).Contents (Elt F) → (⟨S8192, .f32⟩ : BufTy).Contents (Elt F)),
  StableHlo.unary main_v11 main_v12 (broadcastInDim S8192x1 ![0] bcast_S8192_S8192x1_0 : (⟨S8192, .f32⟩ : BufTy).Contents (Elt F) → (⟨S8192x1, .f32⟩ : BufTy).Contents (Elt F)),
  StableHlo.unary main_v12 main_v13 (broadcastInDim S8192x3 ![0, 1] bcast_S8192x1_S8192x3_0_1 : (⟨S8192x1, .f32⟩ : BufTy).Contents (Elt F) → (⟨S8192x3, .f32⟩ : BufTy).Contents (Elt F)),
  StableHlo.binary main_v8 main_v13 main_v14 (subf : (⟨S8192x3, .f32⟩ : BufTy).Contents (Elt F) → (⟨S8192x3, .f32⟩ : BufTy).Contents (Elt F) → (⟨S8192x3, .f32⟩ : BufTy).Contents (Elt F)),
  StableHlo.unary main_v14 main_v15 (Host.exp : (⟨S8192x3, .f32⟩ : BufTy).Contents (Elt F) → (⟨S8192x3, .f32⟩ : BufTy).Contents (Elt F)),
  StableHlo.nullary main_cst_1 (constant S_ .f32 0x00000000#32),
  StableHlo.binary main_v15 main_cst_1 main_v16 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
  StableHlo.unary main_v16 main_v17 (broadcastInDim S8192x1 ![0] bcast_S8192_S8192x1_0 : (⟨S8192, .f32⟩ : BufTy).Contents (Elt F) → (⟨S8192x1, .f32⟩ : BufTy).Contents (Elt F)),
  StableHlo.unary main_v17 main_v18 (broadcastInDim S8192x3 ![0, 1] bcast_S8192x1_S8192x3_0_1 : (⟨S8192x1, .f32⟩ : BufTy).Contents (Elt F) → (⟨S8192x3, .f32⟩ : BufTy).Contents (Elt F)),
  StableHlo.binary main_v15 main_v18 main_v19 (Host.divf : (⟨S8192x3, .f32⟩ : BufTy).Contents (Elt F) → (⟨S8192x3, .f32⟩ : BufTy).Contents (Elt F) → (⟨S8192x3, .f32⟩ : BufTy).Contents (Elt F))]

/-- The lines that find each row's largest entry. -/
abbrev argOps : List (HloOp τ sig (Elt F)) := [
  StableHlo.TRef.nullary main_call1.v0 (iotaInDim S8192x1024 32 1),
  StableHlo.TRef.nullary main_call1.cst (constant S_ .f32 0xFF800000#32),
  StableHlo.TRef.nullary main_call1.c (constantI S_ 32 0#32),
  StableHlo.TRef.quaternary (StableHlo.TRef.of main_arg0) main_call1.v0 main_call1.cst main_call1.c main_call1.v1_0 (fun x y u v j => (Host.argReduce reducer_argmax_f32_i32 x y u v reducesTo_S8192x1024_S8192_d1 h_S_ j).1),
  StableHlo.TRef.quaternary (StableHlo.TRef.of main_arg0) main_call1.v0 main_call1.cst main_call1.c main_call1.v1_1 (fun x y u v j => (Host.argReduce reducer_argmax_f32_i32 x y u v reducesTo_S8192x1024_S8192_d1 h_S_ j).2)]

/-- The remainder's divisor. -/
abbrev c1Ops : List (HloOp τ sig (Elt F)) := [
  StableHlo.nullary main_c (constantI S_ 32 32#32)]

/-- The remainder's lines. -/
abbrev remOps : List (HloOp τ sig (Elt F)) := [
  StableHlo.TRef.unary (StableHlo.TRef.of main_c) main_call2.v0 id,
  StableHlo.TRef.nullary main_call2.c (constantI S_ 32 0#32),
  StableHlo.TRef.binary main_call2.v0 main_call2.c main_call2.v1 (cmpi .eq),
  StableHlo.TRef.nullary main_call2.c_0 (constantI S_ 32 1#32),
  StableHlo.TRef.ternary main_call2.v1 main_call2.c_0 main_call2.v0 main_call2.call0.v0 select,
  StableHlo.TRef.unary main_call2.call0.v0 main_call2.v3 (broadcastInDim S8192 ![] bcast_S_S8192),
  StableHlo.TRef.binary (StableHlo.TRef.of main_v20) main_call2.v3 main_call2.v4 Host.remsi,
  StableHlo.TRef.nullary main_call2.c_1 (constantI S_ 32 0#32),
  StableHlo.TRef.unary main_call2.c_1 main_call2.v5 (broadcastInDim S8192 ![] bcast_S_S8192),
  StableHlo.TRef.binary main_call2.v4 main_call2.v5 main_call2.v6 (cmpi .ne),
  StableHlo.TRef.nullary main_call2.c_2 (constantI S_ 32 0#32),
  StableHlo.TRef.unary main_call2.c_2 main_call2.v7 (broadcastInDim S8192 ![] bcast_S_S8192),
  StableHlo.TRef.binary main_call2.v4 main_call2.v7 main_call2.v8 (cmpi .slt),
  StableHlo.TRef.nullary main_call2.c_3 (constantI S_ 32 0#32),
  StableHlo.TRef.binary main_call2.call0.v0 main_call2.c_3 main_call2.v9 (cmpi .slt),
  StableHlo.TRef.unary main_call2.v9 main_call2.v10 (broadcastInDim S8192 ![] bcast_S_S8192),
  StableHlo.TRef.binary main_call2.v8 main_call2.v10 main_call2.v11 (cmpi .ne),
  StableHlo.TRef.binary main_call2.v11 main_call2.v6 main_call2.v12 andi,
  StableHlo.TRef.unary main_call2.call0.v0 main_call2.v13 (broadcastInDim S8192 ![] bcast_S_S8192),
  StableHlo.TRef.binary main_call2.v4 main_call2.v13 main_call2.v14 addi,
  StableHlo.TRef.ternary main_call2.v12 main_call2.v14 main_call2.v4 main_call2.v15 select]

/-- The quotient's divisor. -/
abbrev c2Ops : List (HloOp τ sig (Elt F)) := [
  StableHlo.nullary main_c_2 (constantI S_ 32 32#32)]

/-- The quotient's lines. -/
abbrev quotOps : List (HloOp τ sig (Elt F)) := [
  StableHlo.TRef.unary (StableHlo.TRef.of main_c_2) main_call3.v0 id,
  StableHlo.TRef.unary main_call3.v0 main_call3.v1 (broadcastInDim S8192 ![] bcast_S_S8192),
  StableHlo.TRef.binary (StableHlo.TRef.of main_v20) main_call3.v1 main_call3.v2 Host.divsi,
  StableHlo.TRef.unary (StableHlo.TRef.of main_v20) main_call3.v3 signi,
  StableHlo.TRef.unary main_call3.v0 main_call3.v4 signi,
  StableHlo.TRef.unary main_call3.v4 main_call3.v5 (broadcastInDim S8192 ![] bcast_S_S8192),
  StableHlo.TRef.binary main_call3.v3 main_call3.v5 main_call3.v6 (cmpi .ne),
  StableHlo.TRef.unary main_call3.v0 main_call3.v7 (broadcastInDim S8192 ![] bcast_S_S8192),
  StableHlo.TRef.binary (StableHlo.TRef.of main_v20) main_call3.v7 main_call3.v8 Host.remsi,
  StableHlo.TRef.nullary main_call3.c (constantI S_ 32 0#32),
  StableHlo.TRef.unary main_call3.c main_call3.v9 (broadcastInDim S8192 ![] bcast_S_S8192),
  StableHlo.TRef.binary main_call3.v8 main_call3.v9 main_call3.v10 (cmpi .ne),
  StableHlo.TRef.binary main_call3.v6 main_call3.v10 main_call3.v11 andi,
  StableHlo.TRef.nullary main_call3.c_0 (constantI S_ 32 1#32),
  StableHlo.TRef.unary main_call3.c_0 main_call3.v12 (broadcastInDim S8192 ![] bcast_S_S8192),
  StableHlo.TRef.binary main_call3.v2 main_call3.v12 main_call3.v13 subi,
  StableHlo.TRef.ternary main_call3.v11 main_call3.v13 main_call3.v2 main_call3.call0.v0 select]

/-- The mask's lines. -/
abbrev maskOps : List (HloOp τ sig (Elt F)) := [
  StableHlo.nullary main_c_3 (constantI S_ 32 31#32),
  StableHlo.unary main_c_3 main_v23 (broadcastInDim S8192 ![] bcast_S_S8192 : (⟨S_, .i32⟩ : BufTy).Contents (Elt F) → (⟨S8192, .i32⟩ : BufTy).Contents (Elt F)),
  StableHlo.binary main_v22 main_v23 main_v24 (cmpi .slt : (⟨S8192, .i32⟩ : BufTy).Contents (Elt F) → (⟨S8192, .i32⟩ : BufTy).Contents (Elt F) → (⟨S8192, .i1⟩ : BufTy).Contents (Elt F)),
  StableHlo.unary main_v24 main_v25 (uitofp .f32 : (⟨S8192, .i1⟩ : BufTy).Contents (Elt F) → (⟨S8192, .f32⟩ : BufTy).Contents (Elt F)),
  StableHlo.nullary main_c_4 (constantI S_ 32 31#32),
  StableHlo.unary main_c_4 main_v26 (broadcastInDim S8192 ![] bcast_S_S8192 : (⟨S_, .i32⟩ : BufTy).Contents (Elt F) → (⟨S8192, .i32⟩ : BufTy).Contents (Elt F)),
  StableHlo.binary main_v21 main_v26 main_v27 (cmpi .slt : (⟨S8192, .i32⟩ : BufTy).Contents (Elt F) → (⟨S8192, .i32⟩ : BufTy).Contents (Elt F) → (⟨S8192, .i1⟩ : BufTy).Contents (Elt F)),
  StableHlo.unary main_v27 main_v28 (uitofp .f32 : (⟨S8192, .i1⟩ : BufTy).Contents (Elt F) → (⟨S8192, .f32⟩ : BufTy).Contents (Elt F)),
  StableHlo.nullary main_cst_5 (constant S_ .f32 0x3F800000#32),
  StableHlo.unary main_cst_5 main_v29 (broadcastInDim S8192 ![] bcast_S_S8192 : (⟨S_, .f32⟩ : BufTy).Contents (Elt F) → (⟨S8192, .f32⟩ : BufTy).Contents (Elt F)),
  StableHlo.unary main_v25 main_v30 (broadcastInDim S8192x1 ![0] bcast_S8192_S8192x1_0 : (⟨S8192, .f32⟩ : BufTy).Contents (Elt F) → (⟨S8192x1, .f32⟩ : BufTy).Contents (Elt F)),
  StableHlo.unary main_v28 main_v31 (broadcastInDim S8192x1 ![0] bcast_S8192_S8192x1_0 : (⟨S8192, .f32⟩ : BufTy).Contents (Elt F) → (⟨S8192x1, .f32⟩ : BufTy).Contents (Elt F)),
  StableHlo.unary main_v29 main_v32 (broadcastInDim S8192x1 ![0] bcast_S8192_S8192x1_0 : (⟨S8192, .f32⟩ : BufTy).Contents (Elt F) → (⟨S8192x1, .f32⟩ : BufTy).Contents (Elt F)),
  StableHlo.nary ![main_v30, main_v31, main_v32] main_v33 (fun u => (concatenate S8192x3 1 [⟨S8192x1, (u 0 : (⟨S8192x1, .f32⟩ : BufTy).Contents (Elt F))⟩, ⟨S8192x1, (u 1 : (⟨S8192x1, .f32⟩ : BufTy).Contents (Elt F))⟩, ⟨S8192x1, (u 2 : (⟨S8192x1, .f32⟩ : BufTy).Contents (Elt F))⟩] concatenates_S8192x1_S8192x1_S8192x1_S8192x3_d1 : (⟨S8192x3, .f32⟩ : BufTy).Contents (Elt F)))]

/-- The second result's lines. -/
abbrev doneOps : List (HloOp τ sig (Elt F)) := [
  StableHlo.nullary main_c_6 (constantI S_ 32 31#32),
  StableHlo.unary main_c_6 main_v34 (broadcastInDim S8192 ![] bcast_S_S8192 : (⟨S_, .i32⟩ : BufTy).Contents (Elt F) → (⟨S8192, .i32⟩ : BufTy).Contents (Elt F)),
  StableHlo.binary main_v21 main_v34 main_v35 (cmpi .eq : (⟨S8192, .i32⟩ : BufTy).Contents (Elt F) → (⟨S8192, .i32⟩ : BufTy).Contents (Elt F) → (⟨S8192, .i1⟩ : BufTy).Contents (Elt F)),
  StableHlo.nullary main_c_7 (constantI S_ 32 31#32),
  StableHlo.unary main_c_7 main_v36 (broadcastInDim S8192 ![] bcast_S_S8192 : (⟨S_, .i32⟩ : BufTy).Contents (Elt F) → (⟨S8192, .i32⟩ : BufTy).Contents (Elt F)),
  StableHlo.binary main_v22 main_v36 main_v37 (cmpi .eq : (⟨S8192, .i32⟩ : BufTy).Contents (Elt F) → (⟨S8192, .i32⟩ : BufTy).Contents (Elt F) → (⟨S8192, .i1⟩ : BufTy).Contents (Elt F)),
  StableHlo.binary main_v35 main_v37 main_v38 (andi : (⟨S8192, .i1⟩ : BufTy).Contents (Elt F) → (⟨S8192, .i1⟩ : BufTy).Contents (Elt F) → (⟨S8192, .i1⟩ : BufTy).Contents (Elt F))]

/-- The first result's lines. -/
abbrev probOps : List (HloOp τ sig (Elt F)) := [
  StableHlo.nullary main_cst_8 (constant S_ .f32 0x322BCC77#32),
  StableHlo.unary main_cst_8 main_v39 (broadcastInDim S8192x3 ![] bcast_S_S8192x3 : (⟨S_, .f32⟩ : BufTy).Contents (Elt F) → (⟨S8192x3, .f32⟩ : BufTy).Contents (Elt F)),
  StableHlo.binary main_v19 main_v39 main_v40 (addf : (⟨S8192x3, .f32⟩ : BufTy).Contents (Elt F) → (⟨S8192x3, .f32⟩ : BufTy).Contents (Elt F) → (⟨S8192x3, .f32⟩ : BufTy).Contents (Elt F)),
  StableHlo.binary main_v33 main_v40 main_v41 (mulf : (⟨S8192x3, .f32⟩ : BufTy).Contents (Elt F) → (⟨S8192x3, .f32⟩ : BufTy).Contents (Elt F) → (⟨S8192x3, .f32⟩ : BufTy).Contents (Elt F)),
  StableHlo.nullary main_cst_9 (constant S_ .f32 0x00000000#32),
  StableHlo.binary main_v41 main_cst_9 main_v42 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
  StableHlo.unary main_v42 main_v43 (broadcastInDim S8192x1 ![0] bcast_S8192_S8192x1_0 : (⟨S8192, .f32⟩ : BufTy).Contents (Elt F) → (⟨S8192x1, .f32⟩ : BufTy).Contents (Elt F)),
  StableHlo.unary main_v43 main_v44 (broadcastInDim S8192x3 ![0, 1] bcast_S8192x1_S8192x3_0_1 : (⟨S8192x1, .f32⟩ : BufTy).Contents (Elt F) → (⟨S8192x3, .f32⟩ : BufTy).Contents (Elt F)),
  StableHlo.binary main_v41 main_v44 main_v45 (Host.divf : (⟨S8192x3, .f32⟩ : BufTy).Contents (Elt F) → (⟨S8192x3, .f32⟩ : BufTy).Contents (Elt F) → (⟨S8192x3, .f32⟩ : BufTy).Contents (Elt F))]

/-- The whole program, in order. -/
abbrev allOps : List (HloOp τ sig (Elt F)) := hidOps ++ (reluOps ++ (logOps ++ (softOps ++ (argOps ++ (c1Ops ++ (remOps ++ (c2Ops ++ (quotOps ++ (maskOps ++ (doneOps ++ (probOps)))))))))))

theorem relu_seq : StableHlo.IsSeq (fn_relu.body (F := F) (.of main_v3) main_call0) reluOps := by hlo_seq
theorem arg_seq : StableHlo.IsSeq (fn_argmax.body (F := F) (.of main_arg0) main_call1) argOps := by hlo_seq
theorem rem_seq : StableHlo.IsSeq (fn_remainder.body (F := F) (.of main_v20) (.of main_c) main_call2) remOps := by hlo_seq
theorem quot_seq : StableHlo.IsSeq (fn_floor_divide.body (F := F) (.of main_v20) (.of main_c_2) main_call3) quotOps := by hlo_seq

theorem seq_call {Λ : Labels} {p q : Prog (TpuEff nD τ sig (Elt F) Λ .tc) PUnit} {a b : List (HloOp τ sig (Elt F))}
    (hp : StableHlo.IsSeq p a) (hq : StableHlo.IsSeq q b) : StableHlo.IsSeq (p >>= fun _ => q) (a ++ b) := by
  unfold StableHlo.IsSeq at hp hq ⊢
  rw [hp, hq, StableHlo.seq_append]

theorem main_seq (d : Dev nD) : StableHlo.IsSeq (main (F := F) d) allOps := by
  unfold main allOps
  repeat (first | exact StableHlo.IsSeq.nil | refine seq_call relu_seq ?_ | refine seq_call arg_seq ?_ | refine seq_call rem_seq ?_ | refine seq_call quot_seq ?_ | apply StableHlo.IsSeq.cons)

theorem hid_val (V : Valuation τ sig (Elt F)) : StableHlo.after hidOps V (Proc.devRef .tc main_v3) = addf (Host.dotGeneral dot_S8192x1024_S1024x1024_S8192x1024_1_0_0_1_n_n none (V (Proc.devRef .tc main_arg0) : Vec F S8192x1024 .f32) (V (Proc.devRef .tc main_arg1) : Vec F S1024x1024 .f32)) (broadcastInDim S8192x1024 ![0, 1] bcast_S1x1024_S8192x1024_0_1 (broadcastInDim S1x1024 ![1] bcast_S1024_S1x1024_1 (V (Proc.devRef .tc main_arg2) : Vec F S1024 .f32))) := by
  after_reads_simp
  all_goals rfl
theorem relu_val (V : Valuation τ sig (Elt F)) : StableHlo.after reluOps V (Proc.devRef .tc main_v4) = maximumf (V (Proc.devRef .tc main_v3) : Vec F S8192x1024 .f32) (broadcastInDim S8192x1024 ![] bcast_S_S8192x1024 (constant S_ .f32 0x00000000#32)) := by
  after_reads_simp
  all_goals rfl
theorem log_val (V : Valuation τ sig (Elt F)) : StableHlo.after logOps V (Proc.devRef .tc main_v8) = addf (Host.dotGeneral dot_S8192x1024_S1024x3_S8192x3_1_0_0_1_n_n none (V (Proc.devRef .tc main_v4) : Vec F S8192x1024 .f32) (V (Proc.devRef .tc main_arg3) : Vec F S1024x3 .f32)) (broadcastInDim S8192x3 ![0, 1] bcast_S1x3_S8192x3_0_1 (broadcastInDim S1x3 ![1] bcast_S3_S1x3_1 (V (Proc.devRef .tc main_arg4) : Vec F S3 .f32))) := by
  after_reads_simp
  all_goals rfl
theorem soft_val (V : Valuation τ sig (Elt F)) : StableHlo.after softOps V (Proc.devRef .tc main_v19) = overSum (expo (V (Proc.devRef .tc main_v8))) := by
  after_reads_simp
  all_goals rfl
theorem arg_val (V : Valuation τ sig (Elt F)) : StableHlo.after argOps V (Proc.devRef .tc main_v20) = argPos (V (Proc.devRef .tc main_arg0)) := by
  after_reads_simp
  all_goals rfl
theorem c1_val (V : Valuation τ sig (Elt F)) : StableHlo.after c1Ops V (Proc.devRef .tc main_c) = constantI S_ 32 32#32 := by
  after_reads_simp
  all_goals rfl
theorem rem_val (V : Valuation τ sig (Elt F)) : StableHlo.after remOps V (Proc.devRef .tc main_v21) = remOf (V (Proc.devRef .tc main_v20)) (safe (V (Proc.devRef .tc main_c))) := by
  after_reads_simp
  simp -implicitDefEqProofs only [StableHlo.TRef.toBuf, StableHlo.TRef.ofBuf, cast_cast, cast_eq, id_eq]
  simp only [remOf, safe, fill]
theorem c2_val (V : Valuation τ sig (Elt F)) : StableHlo.after c2Ops V (Proc.devRef .tc main_c_2) = constantI S_ 32 32#32 := by
  after_reads_simp
  all_goals rfl
theorem quot_val (V : Valuation τ sig (Elt F)) : StableHlo.after quotOps V (Proc.devRef .tc main_v22) = quotOf (V (Proc.devRef .tc main_v20)) (V (Proc.devRef .tc main_c_2)) := by
  after_reads_simp
  all_goals rfl
theorem mask_val (V : Valuation τ sig (Elt F)) (p : IVec S8192 32) (hx : (V (Proc.devRef .tc main_v21)) = colOf p) (hy : (V (Proc.devRef .tc main_v22)) = rowOf p) :
    StableHlo.after maskOps V (Proc.devRef .tc main_v33) = maskOf (F := F) p := by
  have h0 : StableHlo.upto maskOps V 13 (Proc.devRef .tc main_v30) = broadcastInDim S8192x1 ![0] bcast_S8192_S8192x1_0 (uitofp (F := F) .f32 (cmpi .slt (rowOf p) (fill (constantI S_ 32 31#32)))) := by
    after_reads_simp
    rw [hy]
    rfl
  have h1 : StableHlo.upto maskOps V 13 (Proc.devRef .tc main_v31) = broadcastInDim S8192x1 ![0] bcast_S8192_S8192x1_0 (uitofp (F := F) .f32 (cmpi .slt (colOf p) (fill (constantI S_ 32 31#32)))) := by
    after_reads_simp
    rw [hx]
    rfl
  have h2 : StableHlo.upto maskOps V 13 (Proc.devRef .tc main_v32) = broadcastInDim S8192x1 ![0] bcast_S8192_S8192x1_0 (broadcastInDim S8192 ![] bcast_S_S8192 (constant (F := F) S_ .f32 0x3F800000#32)) := by
    after_reads_simp
    all_goals rfl
  after_reads_simp
  show concatenate S8192x3 1 [⟨S8192x1, (StableHlo.upto maskOps V 13 (Proc.devRef .tc main_v30) : Vec F S8192x1 .f32)⟩, ⟨S8192x1, (StableHlo.upto maskOps V 13 (Proc.devRef .tc main_v31) : Vec F S8192x1 .f32)⟩,
    ⟨S8192x1, (StableHlo.upto maskOps V 13 (Proc.devRef .tc main_v32) : Vec F S8192x1 .f32)⟩] concatenates_S8192x1_S8192x1_S8192x1_S8192x3_d1 = _
  rw [h0, h1, h2]
  rfl
theorem done_val (V : Valuation τ sig (Elt F)) (p : IVec S8192 32) (hx : (V (Proc.devRef .tc main_v21)) = colOf p) (hy : (V (Proc.devRef .tc main_v22)) = rowOf p) :
    StableHlo.after doneOps V (Proc.devRef .tc main_v38) = doneOf p := by
  after_reads_simp
  rw [hx, hy]
  rfl
theorem prob_val (V : Valuation τ sig (Elt F)) : StableHlo.after probOps V (Proc.devRef .tc main_v45) = overSum (mulf (V (Proc.devRef .tc main_v33) : Vec F S8192x3 .f32) (addf (V (Proc.devRef .tc main_v19) : Vec F S8192x3 .f32) (broadcastInDim S8192x3 ![] bcast_S_S8192x3 (constant S_ .f32 0x322BCC77#32)))) := by
  after_reads_simp
  all_goals rfl
theorem hidOps_arg0 (V : Valuation τ sig (Elt F)) : StableHlo.after hidOps V (Proc.devRef .tc main_arg0) = V (Proc.devRef .tc main_arg0) := by
  after_reads_simp
theorem hidOps_arg1 (V : Valuation τ sig (Elt F)) : StableHlo.after hidOps V (Proc.devRef .tc main_arg1) = V (Proc.devRef .tc main_arg1) := by
  after_reads_simp
theorem hidOps_arg2 (V : Valuation τ sig (Elt F)) : StableHlo.after hidOps V (Proc.devRef .tc main_arg2) = V (Proc.devRef .tc main_arg2) := by
  after_reads_simp
theorem hidOps_arg3 (V : Valuation τ sig (Elt F)) : StableHlo.after hidOps V (Proc.devRef .tc main_arg3) = V (Proc.devRef .tc main_arg3) := by
  after_reads_simp
theorem hidOps_arg4 (V : Valuation τ sig (Elt F)) : StableHlo.after hidOps V (Proc.devRef .tc main_arg4) = V (Proc.devRef .tc main_arg4) := by
  after_reads_simp
theorem reluOps_arg0 (V : Valuation τ sig (Elt F)) : StableHlo.after reluOps V (Proc.devRef .tc main_arg0) = V (Proc.devRef .tc main_arg0) := by
  after_reads_simp
theorem reluOps_arg1 (V : Valuation τ sig (Elt F)) : StableHlo.after reluOps V (Proc.devRef .tc main_arg1) = V (Proc.devRef .tc main_arg1) := by
  after_reads_simp
theorem reluOps_arg2 (V : Valuation τ sig (Elt F)) : StableHlo.after reluOps V (Proc.devRef .tc main_arg2) = V (Proc.devRef .tc main_arg2) := by
  after_reads_simp
theorem reluOps_arg3 (V : Valuation τ sig (Elt F)) : StableHlo.after reluOps V (Proc.devRef .tc main_arg3) = V (Proc.devRef .tc main_arg3) := by
  after_reads_simp
theorem reluOps_arg4 (V : Valuation τ sig (Elt F)) : StableHlo.after reluOps V (Proc.devRef .tc main_arg4) = V (Proc.devRef .tc main_arg4) := by
  after_reads_simp
theorem logOps_arg0 (V : Valuation τ sig (Elt F)) : StableHlo.after logOps V (Proc.devRef .tc main_arg0) = V (Proc.devRef .tc main_arg0) := by
  after_reads_simp
theorem logOps_arg1 (V : Valuation τ sig (Elt F)) : StableHlo.after logOps V (Proc.devRef .tc main_arg1) = V (Proc.devRef .tc main_arg1) := by
  after_reads_simp
theorem logOps_arg2 (V : Valuation τ sig (Elt F)) : StableHlo.after logOps V (Proc.devRef .tc main_arg2) = V (Proc.devRef .tc main_arg2) := by
  after_reads_simp
theorem logOps_arg3 (V : Valuation τ sig (Elt F)) : StableHlo.after logOps V (Proc.devRef .tc main_arg3) = V (Proc.devRef .tc main_arg3) := by
  after_reads_simp
theorem logOps_arg4 (V : Valuation τ sig (Elt F)) : StableHlo.after logOps V (Proc.devRef .tc main_arg4) = V (Proc.devRef .tc main_arg4) := by
  after_reads_simp
theorem softOps_arg0 (V : Valuation τ sig (Elt F)) : StableHlo.after softOps V (Proc.devRef .tc main_arg0) = V (Proc.devRef .tc main_arg0) := by
  after_reads_simp
theorem softOps_arg1 (V : Valuation τ sig (Elt F)) : StableHlo.after softOps V (Proc.devRef .tc main_arg1) = V (Proc.devRef .tc main_arg1) := by
  after_reads_simp
theorem softOps_arg2 (V : Valuation τ sig (Elt F)) : StableHlo.after softOps V (Proc.devRef .tc main_arg2) = V (Proc.devRef .tc main_arg2) := by
  after_reads_simp
theorem softOps_arg3 (V : Valuation τ sig (Elt F)) : StableHlo.after softOps V (Proc.devRef .tc main_arg3) = V (Proc.devRef .tc main_arg3) := by
  after_reads_simp
theorem softOps_arg4 (V : Valuation τ sig (Elt F)) : StableHlo.after softOps V (Proc.devRef .tc main_arg4) = V (Proc.devRef .tc main_arg4) := by
  after_reads_simp
theorem argOps_arg0 (V : Valuation τ sig (Elt F)) : StableHlo.after argOps V (Proc.devRef .tc main_arg0) = V (Proc.devRef .tc main_arg0) := by
  after_reads_simp
theorem argOps_arg1 (V : Valuation τ sig (Elt F)) : StableHlo.after argOps V (Proc.devRef .tc main_arg1) = V (Proc.devRef .tc main_arg1) := by
  after_reads_simp
theorem argOps_arg2 (V : Valuation τ sig (Elt F)) : StableHlo.after argOps V (Proc.devRef .tc main_arg2) = V (Proc.devRef .tc main_arg2) := by
  after_reads_simp
theorem argOps_arg3 (V : Valuation τ sig (Elt F)) : StableHlo.after argOps V (Proc.devRef .tc main_arg3) = V (Proc.devRef .tc main_arg3) := by
  after_reads_simp
theorem argOps_arg4 (V : Valuation τ sig (Elt F)) : StableHlo.after argOps V (Proc.devRef .tc main_arg4) = V (Proc.devRef .tc main_arg4) := by
  after_reads_simp
theorem argOps_v19 (V : Valuation τ sig (Elt F)) : StableHlo.after argOps V (Proc.devRef .tc main_v19) = V (Proc.devRef .tc main_v19) := by
  after_reads_simp
theorem c1Ops_arg0 (V : Valuation τ sig (Elt F)) : StableHlo.after c1Ops V (Proc.devRef .tc main_arg0) = V (Proc.devRef .tc main_arg0) := by
  after_reads_simp
theorem c1Ops_arg1 (V : Valuation τ sig (Elt F)) : StableHlo.after c1Ops V (Proc.devRef .tc main_arg1) = V (Proc.devRef .tc main_arg1) := by
  after_reads_simp
theorem c1Ops_arg2 (V : Valuation τ sig (Elt F)) : StableHlo.after c1Ops V (Proc.devRef .tc main_arg2) = V (Proc.devRef .tc main_arg2) := by
  after_reads_simp
theorem c1Ops_arg3 (V : Valuation τ sig (Elt F)) : StableHlo.after c1Ops V (Proc.devRef .tc main_arg3) = V (Proc.devRef .tc main_arg3) := by
  after_reads_simp
theorem c1Ops_arg4 (V : Valuation τ sig (Elt F)) : StableHlo.after c1Ops V (Proc.devRef .tc main_arg4) = V (Proc.devRef .tc main_arg4) := by
  after_reads_simp
theorem c1Ops_v19 (V : Valuation τ sig (Elt F)) : StableHlo.after c1Ops V (Proc.devRef .tc main_v19) = V (Proc.devRef .tc main_v19) := by
  after_reads_simp
theorem c1Ops_v20 (V : Valuation τ sig (Elt F)) : StableHlo.after c1Ops V (Proc.devRef .tc main_v20) = V (Proc.devRef .tc main_v20) := by
  after_reads_simp
theorem remOps_arg0 (V : Valuation τ sig (Elt F)) : StableHlo.after remOps V (Proc.devRef .tc main_arg0) = V (Proc.devRef .tc main_arg0) := by
  after_reads_simp
theorem remOps_arg1 (V : Valuation τ sig (Elt F)) : StableHlo.after remOps V (Proc.devRef .tc main_arg1) = V (Proc.devRef .tc main_arg1) := by
  after_reads_simp
theorem remOps_arg2 (V : Valuation τ sig (Elt F)) : StableHlo.after remOps V (Proc.devRef .tc main_arg2) = V (Proc.devRef .tc main_arg2) := by
  after_reads_simp
theorem remOps_arg3 (V : Valuation τ sig (Elt F)) : StableHlo.after remOps V (Proc.devRef .tc main_arg3) = V (Proc.devRef .tc main_arg3) := by
  after_reads_simp
theorem remOps_arg4 (V : Valuation τ sig (Elt F)) : StableHlo.after remOps V (Proc.devRef .tc main_arg4) = V (Proc.devRef .tc main_arg4) := by
  after_reads_simp
theorem remOps_v19 (V : Valuation τ sig (Elt F)) : StableHlo.after remOps V (Proc.devRef .tc main_v19) = V (Proc.devRef .tc main_v19) := by
  after_reads_simp
theorem remOps_v20 (V : Valuation τ sig (Elt F)) : StableHlo.after remOps V (Proc.devRef .tc main_v20) = V (Proc.devRef .tc main_v20) := by
  after_reads_simp
theorem c2Ops_arg0 (V : Valuation τ sig (Elt F)) : StableHlo.after c2Ops V (Proc.devRef .tc main_arg0) = V (Proc.devRef .tc main_arg0) := by
  after_reads_simp
theorem c2Ops_arg1 (V : Valuation τ sig (Elt F)) : StableHlo.after c2Ops V (Proc.devRef .tc main_arg1) = V (Proc.devRef .tc main_arg1) := by
  after_reads_simp
theorem c2Ops_arg2 (V : Valuation τ sig (Elt F)) : StableHlo.after c2Ops V (Proc.devRef .tc main_arg2) = V (Proc.devRef .tc main_arg2) := by
  after_reads_simp
theorem c2Ops_arg3 (V : Valuation τ sig (Elt F)) : StableHlo.after c2Ops V (Proc.devRef .tc main_arg3) = V (Proc.devRef .tc main_arg3) := by
  after_reads_simp
theorem c2Ops_arg4 (V : Valuation τ sig (Elt F)) : StableHlo.after c2Ops V (Proc.devRef .tc main_arg4) = V (Proc.devRef .tc main_arg4) := by
  after_reads_simp
theorem c2Ops_v19 (V : Valuation τ sig (Elt F)) : StableHlo.after c2Ops V (Proc.devRef .tc main_v19) = V (Proc.devRef .tc main_v19) := by
  after_reads_simp
theorem c2Ops_v20 (V : Valuation τ sig (Elt F)) : StableHlo.after c2Ops V (Proc.devRef .tc main_v20) = V (Proc.devRef .tc main_v20) := by
  after_reads_simp
theorem c2Ops_v21 (V : Valuation τ sig (Elt F)) : StableHlo.after c2Ops V (Proc.devRef .tc main_v21) = V (Proc.devRef .tc main_v21) := by
  after_reads_simp
theorem quotOps_arg0 (V : Valuation τ sig (Elt F)) : StableHlo.after quotOps V (Proc.devRef .tc main_arg0) = V (Proc.devRef .tc main_arg0) := by
  after_reads_simp
theorem quotOps_arg1 (V : Valuation τ sig (Elt F)) : StableHlo.after quotOps V (Proc.devRef .tc main_arg1) = V (Proc.devRef .tc main_arg1) := by
  after_reads_simp
theorem quotOps_arg2 (V : Valuation τ sig (Elt F)) : StableHlo.after quotOps V (Proc.devRef .tc main_arg2) = V (Proc.devRef .tc main_arg2) := by
  after_reads_simp
theorem quotOps_arg3 (V : Valuation τ sig (Elt F)) : StableHlo.after quotOps V (Proc.devRef .tc main_arg3) = V (Proc.devRef .tc main_arg3) := by
  after_reads_simp
theorem quotOps_arg4 (V : Valuation τ sig (Elt F)) : StableHlo.after quotOps V (Proc.devRef .tc main_arg4) = V (Proc.devRef .tc main_arg4) := by
  after_reads_simp
theorem quotOps_v19 (V : Valuation τ sig (Elt F)) : StableHlo.after quotOps V (Proc.devRef .tc main_v19) = V (Proc.devRef .tc main_v19) := by
  after_reads_simp
theorem quotOps_v21 (V : Valuation τ sig (Elt F)) : StableHlo.after quotOps V (Proc.devRef .tc main_v21) = V (Proc.devRef .tc main_v21) := by
  after_reads_simp
theorem maskOps_arg0 (V : Valuation τ sig (Elt F)) : StableHlo.after maskOps V (Proc.devRef .tc main_arg0) = V (Proc.devRef .tc main_arg0) := by
  after_reads_simp
theorem maskOps_arg1 (V : Valuation τ sig (Elt F)) : StableHlo.after maskOps V (Proc.devRef .tc main_arg1) = V (Proc.devRef .tc main_arg1) := by
  after_reads_simp
theorem maskOps_arg2 (V : Valuation τ sig (Elt F)) : StableHlo.after maskOps V (Proc.devRef .tc main_arg2) = V (Proc.devRef .tc main_arg2) := by
  after_reads_simp
theorem maskOps_arg3 (V : Valuation τ sig (Elt F)) : StableHlo.after maskOps V (Proc.devRef .tc main_arg3) = V (Proc.devRef .tc main_arg3) := by
  after_reads_simp
theorem maskOps_arg4 (V : Valuation τ sig (Elt F)) : StableHlo.after maskOps V (Proc.devRef .tc main_arg4) = V (Proc.devRef .tc main_arg4) := by
  after_reads_simp
theorem maskOps_v19 (V : Valuation τ sig (Elt F)) : StableHlo.after maskOps V (Proc.devRef .tc main_v19) = V (Proc.devRef .tc main_v19) := by
  after_reads_simp
theorem maskOps_v21 (V : Valuation τ sig (Elt F)) : StableHlo.after maskOps V (Proc.devRef .tc main_v21) = V (Proc.devRef .tc main_v21) := by
  after_reads_simp
theorem maskOps_v22 (V : Valuation τ sig (Elt F)) : StableHlo.after maskOps V (Proc.devRef .tc main_v22) = V (Proc.devRef .tc main_v22) := by
  after_reads_simp
theorem doneOps_arg0 (V : Valuation τ sig (Elt F)) : StableHlo.after doneOps V (Proc.devRef .tc main_arg0) = V (Proc.devRef .tc main_arg0) := by
  after_reads_simp
theorem doneOps_arg1 (V : Valuation τ sig (Elt F)) : StableHlo.after doneOps V (Proc.devRef .tc main_arg1) = V (Proc.devRef .tc main_arg1) := by
  after_reads_simp
theorem doneOps_arg2 (V : Valuation τ sig (Elt F)) : StableHlo.after doneOps V (Proc.devRef .tc main_arg2) = V (Proc.devRef .tc main_arg2) := by
  after_reads_simp
theorem doneOps_arg3 (V : Valuation τ sig (Elt F)) : StableHlo.after doneOps V (Proc.devRef .tc main_arg3) = V (Proc.devRef .tc main_arg3) := by
  after_reads_simp
theorem doneOps_arg4 (V : Valuation τ sig (Elt F)) : StableHlo.after doneOps V (Proc.devRef .tc main_arg4) = V (Proc.devRef .tc main_arg4) := by
  after_reads_simp
theorem doneOps_v19 (V : Valuation τ sig (Elt F)) : StableHlo.after doneOps V (Proc.devRef .tc main_v19) = V (Proc.devRef .tc main_v19) := by
  after_reads_simp
theorem doneOps_v33 (V : Valuation τ sig (Elt F)) : StableHlo.after doneOps V (Proc.devRef .tc main_v33) = V (Proc.devRef .tc main_v33) := by
  after_reads_simp
theorem probOps_arg0 (V : Valuation τ sig (Elt F)) : StableHlo.after probOps V (Proc.devRef .tc main_arg0) = V (Proc.devRef .tc main_arg0) := by
  after_reads_simp
theorem probOps_arg1 (V : Valuation τ sig (Elt F)) : StableHlo.after probOps V (Proc.devRef .tc main_arg1) = V (Proc.devRef .tc main_arg1) := by
  after_reads_simp
theorem probOps_arg2 (V : Valuation τ sig (Elt F)) : StableHlo.after probOps V (Proc.devRef .tc main_arg2) = V (Proc.devRef .tc main_arg2) := by
  after_reads_simp
theorem probOps_arg3 (V : Valuation τ sig (Elt F)) : StableHlo.after probOps V (Proc.devRef .tc main_arg3) = V (Proc.devRef .tc main_arg3) := by
  after_reads_simp
theorem probOps_arg4 (V : Valuation τ sig (Elt F)) : StableHlo.after probOps V (Proc.devRef .tc main_arg4) = V (Proc.devRef .tc main_arg4) := by
  after_reads_simp
theorem probOps_v38 (V : Valuation τ sig (Elt F)) : StableHlo.after probOps V (Proc.devRef .tc main_v38) = V (Proc.devRef .tc main_v38) := by
  after_reads_simp
theorem after_app (a b : List (HloOp τ sig (Elt F))) (V : Valuation τ sig (Elt F)) :
    StableHlo.after (a ++ b) V = StableHlo.after b (StableHlo.after a V) := by
  induction a generalizing V with
  | nil => rfl
  | cons op a ih => exact ih _

theorem read_arg0 (V : Valuation τ sig (Elt F)) : StableHlo.after allOps V (Proc.devRef .tc main_arg0) = (V (Proc.devRef .tc main_arg0)) := by
  unfold allOps
  rw [after_app, after_app, after_app, after_app, after_app, after_app, after_app, after_app, after_app, after_app, after_app, probOps_arg0, doneOps_arg0, maskOps_arg0, quotOps_arg0, c2Ops_arg0, remOps_arg0, c1Ops_arg0, argOps_arg0, softOps_arg0, logOps_arg0, reluOps_arg0, hidOps_arg0]

theorem read_arg1 (V : Valuation τ sig (Elt F)) : StableHlo.after allOps V (Proc.devRef .tc main_arg1) = (V (Proc.devRef .tc main_arg1)) := by
  unfold allOps
  rw [after_app, after_app, after_app, after_app, after_app, after_app, after_app, after_app, after_app, after_app, after_app, probOps_arg1, doneOps_arg1, maskOps_arg1, quotOps_arg1, c2Ops_arg1, remOps_arg1, c1Ops_arg1, argOps_arg1, softOps_arg1, logOps_arg1, reluOps_arg1, hidOps_arg1]

theorem read_arg2 (V : Valuation τ sig (Elt F)) : StableHlo.after allOps V (Proc.devRef .tc main_arg2) = (V (Proc.devRef .tc main_arg2)) := by
  unfold allOps
  rw [after_app, after_app, after_app, after_app, after_app, after_app, after_app, after_app, after_app, after_app, after_app, probOps_arg2, doneOps_arg2, maskOps_arg2, quotOps_arg2, c2Ops_arg2, remOps_arg2, c1Ops_arg2, argOps_arg2, softOps_arg2, logOps_arg2, reluOps_arg2, hidOps_arg2]

theorem read_arg3 (V : Valuation τ sig (Elt F)) : StableHlo.after allOps V (Proc.devRef .tc main_arg3) = (V (Proc.devRef .tc main_arg3)) := by
  unfold allOps
  rw [after_app, after_app, after_app, after_app, after_app, after_app, after_app, after_app, after_app, after_app, after_app, probOps_arg3, doneOps_arg3, maskOps_arg3, quotOps_arg3, c2Ops_arg3, remOps_arg3, c1Ops_arg3, argOps_arg3, softOps_arg3, logOps_arg3, reluOps_arg3, hidOps_arg3]

theorem read_arg4 (V : Valuation τ sig (Elt F)) : StableHlo.after allOps V (Proc.devRef .tc main_arg4) = (V (Proc.devRef .tc main_arg4)) := by
  unfold allOps
  rw [after_app, after_app, after_app, after_app, after_app, after_app, after_app, after_app, after_app, after_app, after_app, probOps_arg4, doneOps_arg4, maskOps_arg4, quotOps_arg4, c2Ops_arg4, remOps_arg4, c1Ops_arg4, argOps_arg4, softOps_arg4, logOps_arg4, reluOps_arg4, hidOps_arg4]

/-- What the first eleven groups leave where the last group reads. -/
theorem read_v20 (V : Valuation τ sig (Elt F)) :
    StableHlo.after argOps (StableHlo.after softOps (StableHlo.after logOps (StableHlo.after reluOps (StableHlo.after hidOps V)))) (Proc.devRef .tc main_v20) = argPos (V (Proc.devRef .tc main_arg0)) := by
  rw [arg_val, softOps_arg0, logOps_arg0, reluOps_arg0, hidOps_arg0]

theorem read_v19 (V : Valuation τ sig (Elt F)) :
    StableHlo.after argOps (StableHlo.after softOps (StableHlo.after logOps (StableHlo.after reluOps (StableHlo.after hidOps V)))) (Proc.devRef .tc main_v19)
      = overSum (expo (logits (V (Proc.devRef .tc main_arg0)) (V (Proc.devRef .tc main_arg1)) (V (Proc.devRef .tc main_arg2)) (V (Proc.devRef .tc main_arg3)) (V (Proc.devRef .tc main_arg4)))) := by
  rw [argOps_v19, soft_val, log_val, relu_val, hid_val, reluOps_arg3, hidOps_arg3, reluOps_arg4, hidOps_arg4]
  rfl

theorem read_x (W : Valuation τ sig (Elt F)) :
    StableHlo.after quotOps (StableHlo.after c2Ops (StableHlo.after remOps (StableHlo.after c1Ops W))) (Proc.devRef .tc main_v21) = colOf (W (Proc.devRef .tc main_v20)) := by
  rw [quotOps_v21, c2Ops_v21, rem_val, c1Ops_v20, c1_val]
  rfl

theorem read_y (W : Valuation τ sig (Elt F)) :
    StableHlo.after quotOps (StableHlo.after c2Ops (StableHlo.after remOps (StableHlo.after c1Ops W))) (Proc.devRef .tc main_v22) = rowOf (W (Proc.devRef .tc main_v20)) := by
  rw [quot_val, c2Ops_v20, c2_val, remOps_v20, c1Ops_v20]
  rfl

theorem read_v38 (V : Valuation τ sig (Elt F)) : StableHlo.after allOps V (Proc.devRef .tc main_v38) = doneOf (argPos (V (Proc.devRef .tc main_arg0))) := by
  unfold allOps
  rw [after_app, after_app, after_app, after_app, after_app, after_app, after_app, after_app, after_app, after_app, after_app, probOps_v38]
  refine done_val _ _ ?_ ?_
  · rw [maskOps_v21, read_x, read_v20]
  · rw [maskOps_v22, read_y, read_v20]

theorem read_v45 (V : Valuation τ sig (Elt F)) : StableHlo.after allOps V (Proc.devRef .tc main_v45)
    = probsOf (logits (V (Proc.devRef .tc main_arg0)) (V (Proc.devRef .tc main_arg1)) (V (Proc.devRef .tc main_arg2)) (V (Proc.devRef .tc main_arg3)) (V (Proc.devRef .tc main_arg4))) (argPos (V (Proc.devRef .tc main_arg0))) := by
  unfold allOps
  rw [after_app, after_app, after_app, after_app, after_app, after_app, after_app, after_app, after_app, after_app, after_app, prob_val, doneOps_v33, doneOps_v19, maskOps_v19, quotOps_v19, c2Ops_v19, remOps_v19, c1Ops_v19, read_v19,
    mask_val _ (argPos (V (Proc.devRef .tc main_arg0))) ((read_x _).trans (congrArg colOf (read_v20 V))) ((read_y _).trans (congrArg rowOf (read_v20 V)))]
  rfl

/-- No line allocates. -/
theorem ops_fresh : ∀ op ∈ (allOps : List (HloOp τ sig (Elt F))), op.fresh = ∅ := by
  intro _ h
  (repeat (cases h with | head => rfl | tail _ h => ?_))
  exact nomatch h

theorem hidOps_sub : (hidOps : List (HloOp τ sig (Elt F))).Forall fun op => op.bufs ⊆ StableHlo.tcRefs τ sig := by simp

theorem reluOps_sub : (reluOps : List (HloOp τ sig (Elt F))).Forall fun op => op.bufs ⊆ StableHlo.tcRefs τ sig := by simp

theorem logOps_sub : (logOps : List (HloOp τ sig (Elt F))).Forall fun op => op.bufs ⊆ StableHlo.tcRefs τ sig := by simp

theorem softOps_sub : (softOps : List (HloOp τ sig (Elt F))).Forall fun op => op.bufs ⊆ StableHlo.tcRefs τ sig := by simp

theorem argOps_sub : (argOps : List (HloOp τ sig (Elt F))).Forall fun op => op.bufs ⊆ StableHlo.tcRefs τ sig := by simp

theorem c1Ops_sub : (c1Ops : List (HloOp τ sig (Elt F))).Forall fun op => op.bufs ⊆ StableHlo.tcRefs τ sig := by simp

theorem remOps_sub : (remOps : List (HloOp τ sig (Elt F))).Forall fun op => op.bufs ⊆ StableHlo.tcRefs τ sig := by simp

theorem c2Ops_sub : (c2Ops : List (HloOp τ sig (Elt F))).Forall fun op => op.bufs ⊆ StableHlo.tcRefs τ sig := by simp

theorem quotOps_sub : (quotOps : List (HloOp τ sig (Elt F))).Forall fun op => op.bufs ⊆ StableHlo.tcRefs τ sig := by simp

theorem maskOps_sub : (maskOps : List (HloOp τ sig (Elt F))).Forall fun op => op.bufs ⊆ StableHlo.tcRefs τ sig := by simp

theorem doneOps_sub : (doneOps : List (HloOp τ sig (Elt F))).Forall fun op => op.bufs ⊆ StableHlo.tcRefs τ sig := by simp

theorem probOps_sub : (probOps : List (HloOp τ sig (Elt F))).Forall fun op => op.bufs ⊆ StableHlo.tcRefs τ sig := by simp

/-- Each line touches buffers of the device's one thread. -/
theorem ops_sub : (allOps : List (HloOp τ sig (Elt F))).Forall fun op => op.bufs ⊆ StableHlo.tcRefs τ sig := by
  unfold allOps
  simp only [List.forall_append]
  exact ⟨hidOps_sub, reluOps_sub, logOps_sub, softOps_sub, argOps_sub, c1Ops_sub, remOps_sub, c2Ops_sub, quotOps_sub, maskOps_sub, doneOps_sub, probOps_sub⟩

theorem run_values : θ_run defs (onTc (τ := τ) (main (F := F))) ⟨m, fun _ => 0, ρ⟩ (fun r => ∀ c : Dev nD,
      r.2.mem ((c.tc : Thread nD τ).loc main_v45) = probsOf (lgOf m c) (argPos (m ((c.tc : Thread nD τ).loc main_arg0)))
      ∧ r.2.mem ((c.tc : Thread nD τ).loc main_v38) = doneOf (argPos (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (StableHlo.run_hlo defs main main_seq (by decide) (by decide) ops_sub ops_fresh m ρ) fun r h c => ?_
  exact ⟨(h c main_v45).trans (read_v45 _), (h c main_v38).trans (read_v38 _), (h c main_arg0).trans (read_arg0 _), (h c main_arg1).trans (read_arg1 _),
    (h c main_arg2).trans (read_arg2 _), (h c main_arg3).trans (read_arg3 _), (h c main_arg4).trans (read_arg4 _)⟩

/-- The arguments end unchanged; the program has no counter. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_values m ρ) fun r h => ⟨fun c => (h c).2.2, sem_eq_zero_of_no_sems (by decide) r.2⟩

end Cert.ReferenceIdeal.Val

end
-- ==== Proof.KOrig.lean ====
/- The original program is the idealized one's text: its run is the same run, so its frame is too. -/
module

public import proofs.«01_k».proof.Defs
public import proofs.«01_k».proof.Proof.Gen.Kernel
public import proofs.«01_k».proof.Proof.KLaunch

@[expose] public section

set_option maxRecDepth 100000

noncomputable section

namespace Cert.Kernel.Val

open Idealize.ShloMosaic Idealize.SL.Sem

variable {F : FTy → Type} [FloatOps F]

/-- The bodies agree, -/
theorem body_eq : @Cert.Kernel.cc0__fused F _ _ = @Cert.KernelIdeal.cc0__fused F _ _ := by with_unfolding_all rfl

/-- so the labels' bodies agree, -/
theorem labels_eq : Cert.Kernel.defs₀ (F := F) = Cert.KernelIdeal.defs₀ (F := F) := by
  unfold Cert.Kernel.defs₀ Cert.KernelIdeal.defs₀
  congr 1
  funext l
  match l with
  | 0 => funext x; with_unfolding_all rfl

/-- and with them the program's definitions, -/
theorem defs_eq : Cert.Kernel.defs (F := F) = Cert.KernelIdeal.defs (F := F) :=
  congrArg (Pipeline.defs (Cert.KernelIdeal.pcfgs (F := F))) labels_eq

/-- and its lines. -/
theorem main_eq : Cert.Kernel.main (F := F) = Cert.KernelIdeal.main (F := F) := by with_unfolding_all rfl

variable (m : (ℓ : Loc nD τ sig) → Buf (Elt F) ℓ) (ρ : Dev nD → PrngReg)

/-- The argument arrays end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Val.frame_all (F := F) m ρ

end Cert.Kernel.Val

end
-- ==== Proof.Argmax.lean ====
/- The position of a row's largest entry: the kernel's and the reference's are both the first place where the row is
   greatest. -/
module

public import proofs.«01_k».proof.Proof.KBody
public import proofs.«01_k».proof.Proof.RefRun
public import Idealize.ShloMosaic.Lib.Pointwise

@[expose] public section

set_option maxRecDepth 16384

noncomputable section

namespace Cert.Val

open Idealize.ShloMosaic

/-- `n` is the first place where `f` is greatest. -/
def FirstMax (f : Fin 1024 → EReal) (n : Fin 1024) : Prop := (∀ k, f k ≤ f n) ∧ ∀ k, f k = f n → n ≤ k

theorem FirstMax.unique {f : Fin 1024 → EReal} {a b : Fin 1024} (ha : FirstMax f a) (hb : FirstMax f b) : a = b :=
  le_antisymm (ha.2 b (le_antisymm (ha.1 b) (hb.1 a))) (hb.2 a (le_antisymm (hb.1 a) (ha.1 b)))

/-- There is one. -/
theorem exists_firstMax (f : Fin 1024 → EReal) : ∃ n, FirstMax f n := by
  classical
  obtain ⟨a, -, ha⟩ := Finset.exists_max_image (Finset.univ : Finset (Fin 1024)) f ⟨0, Finset.mem_univ _⟩
  have hne : (Finset.univ.filter fun k => f k = f a).Nonempty := ⟨a, by simp⟩
  have hm := Finset.min'_mem _ hne
  rw [Finset.mem_filter] at hm
  refine ⟨_, fun k => (ha k (Finset.mem_univ k)).trans hm.2.symm.le, fun k hk => Finset.min'_le _ _ ?_⟩
  rw [Finset.mem_filter]
  exact ⟨Finset.mem_univ k, hk.trans hm.2⟩

/-- A left fold whose step answers one of its two arguments, one at least as good as both, answers the start or a member of
    the list, and one at least as good as all of them. -/
theorem foldl_best {α : Type} (f : α → α → α) (ge : α → α → Prop) (refl : ∀ a, ge a a) (trans : ∀ a b c, ge a b → ge b c → ge a c)
    (pick : ∀ a b, f a b = a ∨ f a b = b) (left : ∀ a b, ge (f a b) a) (right : ∀ a b, ge (f a b) b) (L : List α) (a : α) :
    (L.foldl f a = a ∨ L.foldl f a ∈ L) ∧ ge (L.foldl f a) a ∧ ∀ p ∈ L, ge (L.foldl f a) p := by
  induction L generalizing a with
  | nil => exact ⟨.inl rfl, refl a, fun p hp => by cases hp⟩
  | cons b L ih =>
    obtain ⟨h1, h2, h3⟩ := ih (f a b)
    rw [List.foldl_cons]
    refine ⟨?_, trans _ _ _ h2 (left a b), fun p hp => ?_⟩
    · rcases h1 with h1 | h1
      · rw [h1]
        rcases pick a b with h | h <;> rw [h]
        · exact .inl rfl
        · exact .inr (List.mem_cons_self)
      · exact .inr (List.mem_cons_of_mem _ h1)
    · rcases List.mem_cons.1 hp with rfl | hp
      · exact trans _ _ _ h2 (right a p)
      · exact h3 p hp

/-- One pair beats another: a greater value, or the same value at an earlier place. -/
def Beats (a b : EReal × BitVec 32) : Prop := b.1 < a.1 ∨ (b.1 = a.1 ∧ a.2.toInt ≤ b.2.toInt)

theorem Beats.refl (a : EReal × BitVec 32) : Beats a a := .inr ⟨rfl, le_rfl⟩

theorem Beats.trans (a b c : EReal × BitVec 32) (h : Beats a b) (h' : Beats b c) : Beats a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem cmp_gt (a b : EReal) : FloatOps.cmpf (F := Ideal) (φ := .f32) .ogt a b = BitVec.ofBool (decide (b < a)) := rfl
theorem cmp_ne (a b : EReal) : FloatOps.cmpf (F := Ideal) (φ := .f32) .une a b = BitVec.ofBool (decide (a ≠ b)) := rfl
theorem cmp_eq (a b : EReal) : FloatOps.cmpf (F := Ideal) (φ := .f32) .oeq a b = BitVec.ofBool (decide (a = b)) := rfl

/-- The reference's step. -/
abbrev stepR : EReal × BitVec 32 → EReal × BitVec 32 → EReal × BitVec 32 := Cert.ReferenceIdeal.reducer_argmax_f32_i32 (F := Ideal)

/-- It answers one of the two pairs, one that beats both. -/
theorem step_cases (a b : EReal × BitVec 32) : Beats (stepR a b) a ∧ Beats (stepR a b) b ∧ (stepR a b = a ∨ stepR a b = b) := by
  obtain ⟨av, ai⟩ := a
  obtain ⟨bv, bi⟩ := b
  unfold stepR Cert.ReferenceIdeal.reducer_argmax_f32_i32 Beats
  simp only [cmp_gt, cmp_ne, cmp_eq]
  rcases lt_trichotomy av bv with h | h | h
  · have h1 := h.ne; have h2 := h.not_gt
    simp [h, h1, h2, Scalar.select, IntOp.ori, IntOp.andi]
  · subst h
    by_cases h : ai.toInt < bi.toInt
    · simp [h, Scalar.select, IntOp.ori, IntOp.andi, IntOp.cmpi, BitVec.slt, h.le]
    · simp [h, Scalar.select, IntOp.ori, IntOp.andi, IntOp.cmpi, BitVec.slt, not_lt.1 h]
  · have h1 := h.ne'; have h2 := h.not_gt
    simp [h, h1, h2, Scalar.select, IntOp.ori, IntOp.andi]

/-- A small place's word reads as the place. -/
theorem place_toInt (n : Fin 1024) : (BitVec.ofNat 32 n.val).toInt = n.val := by
  have := n.isLt
  rw [BitVec.toInt_eq_toNat_cond, BitVec.toNat_ofNat]
  have e : n.val % 2 ^ 32 = n.val := Nat.mod_eq_of_lt (by omega)
  rw [e, if_pos (by omega)]

/-- What a filter keeps, whatever decides it. -/
theorem mem_kept {α : Type} (p : α → Prop) (inst : DecidablePred p) (S : Finset α) (a : α) : a ∈ @Finset.filter α p inst S ↔ a ∈ S ∧ p a :=
  Finset.mem_filter

/-- The first extreme's place along the second axis. -/
theorem reduceIndex_first {n0 : ℕ} {t : Shape} (x : (⟨2, ![n0, 1024]⟩ : Shape).Idx → EReal) (h : (⟨2, ![n0, 1024]⟩ : Shape).Reduces [1] t) (j : t.Idx)
    (n : Fin 1024) (hn : FirstMax (fun k => x (ix2 ⟨(j ⟨0, h.lt_r2_a1_0⟩).val, Shape.coordLt (j ⟨0, h.lt_r2_a1_0⟩) h.size_r2_a1_0⟩ k)) n) :
    Ideal.reduceIndex .argMax 1 h x j = BitVec.ofNat 32 n.val := by
  unfold Ideal.reduceIndex
  dsimp only
  congr 1
  have key : ∀ (S : Finset ℕ) (hm : n.val ∈ S) (hl : ∀ k ∈ S, n.val ≤ k), S.min.getD 0 = n.val := fun S hm hl => by
    rw [← Finset.coe_min' ⟨_, hm⟩, le_antisymm (Finset.min'_le S _ hm) (Finset.le_min' S ⟨_, hm⟩ _ hl)]
    rfl
  refine key _ ?_ fun k hk => ?_
  · refine Finset.mem_image.2 ⟨ix2 ⟨(j ⟨0, h.lt_r2_a1_0⟩).val, Shape.coordLt (j ⟨0, h.lt_r2_a1_0⟩) h.size_r2_a1_0⟩ n, ?_, rfl⟩
    refine (mem_kept _ _ _ _).2 ⟨(mem_kept _ _ _ _).2 ⟨Finset.mem_univ _, (h.fiber_r2_a1 j _).2 ⟨n, rfl⟩⟩, fun i' hi' => ?_⟩
    obtain ⟨k, rfl⟩ := (h.fiber_r2_a1 j i').1 ((mem_kept _ _ _ _).1 hi').2
    rw [if_pos rfl]
    exact not_lt.2 (hn.1 k)
  · obtain ⟨i, hi, rfl⟩ := Finset.mem_image.1 hk
    obtain ⟨hf, hb⟩ := (mem_kept _ _ _ _).1 hi
    obtain ⟨k, rfl⟩ := (h.fiber_r2_a1 j i).1 ((mem_kept _ _ _ _).1 hf).2
    have hk := hb (ix2 ⟨(j ⟨0, h.lt_r2_a1_0⟩).val, Shape.coordLt (j ⟨0, h.lt_r2_a1_0⟩) h.size_r2_a1_0⟩ n)
      ((mem_kept _ _ _ _).2 ⟨Finset.mem_univ _, (h.fiber_r2_a1 j _).2 ⟨n, rfl⟩⟩)
    rw [if_pos rfl] at hk
    exact hn.2 k (le_antisymm (hn.1 k) (not_lt.1 hk))

/-- The reference's fold of pairs along the second axis, from the least value. -/
theorem argReduce_first {n0 : ℕ} {t u : Shape} (x : (⟨2, ![n0, 1024]⟩ : Shape).Idx → EReal) (y : (⟨2, ![n0, 1024]⟩ : Shape).Idx → BitVec 32)
    (ix : u.Idx → EReal) (iy : u.Idx → BitVec 32) (h : (⟨2, ![n0, 1024]⟩ : Shape).ReducesTo [1] t) (hu : 0 < u.numel) (j : t.Idx)
    (hy : ∀ a (k : Fin 1024), y (ix2 a k) = BitVec.ofNat 32 k.val) (hix : ix (Shape.Idx.first hu) = ⊥) (hiy : iy (Shape.Idx.first hu) = 0#32)
    (n : Fin 1024) (hn : FirstMax (fun k => x (ix2 ⟨(j ⟨0, h.lt_r2_a1_0⟩).val, Shape.coordLt (j ⟨0, h.lt_r2_a1_0⟩) h.size_r2_a1_0⟩ k)) n) :
    (Host.argReduce (F := Ideal) (φ := .f32) stepR x y ix iy h hu j).2 = BitVec.ofNat 32 n.val := by
  have e := congrFun (Ideal.argReduce_eq_reduce2 (φ := .f32) stepR x y ix iy h hu) j
  rw [e, Host.reduce2_eq_foldl_fiber, hix, hiy]
  obtain ⟨h1, h2, h3⟩ := foldl_best stepR Beats Beats.refl Beats.trans (fun a b => (step_cases a b).2.2) (fun a b => (step_cases a b).1)
    (fun a b => (step_cases a b).2.1) (Host.argReduceFiber x y h j) (⊥, 0#32)
  generalize (Host.argReduceFiber x y h j).foldl stepR (⊥, 0#32) = R at h1 h2 h3 ⊢
  have hmem : ∀ k : Fin 1024, (x (ix2 ⟨(j ⟨0, h.lt_r2_a1_0⟩).val, Shape.coordLt (j ⟨0, h.lt_r2_a1_0⟩) h.size_r2_a1_0⟩ k), BitVec.ofNat 32 k.val)
      ∈ Host.argReduceFiber x y h j := fun k => by
    unfold Host.argReduceFiber
    refine List.mem_map.2 ⟨Shape.rowMajor _ (ix2 ⟨(j ⟨0, h.lt_r2_a1_0⟩).val, Shape.coordLt (j ⟨0, h.lt_r2_a1_0⟩) h.size_r2_a1_0⟩ k), ?_, ?_⟩
    · rw [List.mem_filter, Equiv.symm_apply_apply]
      exact ⟨List.mem_finRange _, decide_eq_true ((h.fiber_r2_a1 j _).2 ⟨k, rfl⟩)⟩
    · rw [Equiv.symm_apply_apply, hy]
  obtain ⟨k, hk⟩ : ∃ k : Fin 1024, R = (x (ix2 ⟨(j ⟨0, h.lt_r2_a1_0⟩).val, Shape.coordLt (j ⟨0, h.lt_r2_a1_0⟩) h.size_r2_a1_0⟩ k), BitVec.ofNat 32 k.val) := by
    rcases h1 with rfl | h1
    · refine ⟨0, ?_⟩
      have h0 := h3 _ (hmem 0)
      rcases h0 with h0 | h0
      · exact absurd h0 not_lt_bot
      · exact Prod.ext h0.1.symm rfl
    · unfold Host.argReduceFiber at h1
      obtain ⟨i, hi, rfl⟩ := List.mem_map.1 h1
      obtain ⟨k, hk⟩ := (h.fiber_r2_a1 j _).1 (of_decide_eq_true (List.mem_filter.1 hi).2)
      exact ⟨k, by rw [← hk, hy]⟩
  subst hk
  have hkn : FirstMax (fun k => x (ix2 ⟨(j ⟨0, h.lt_r2_a1_0⟩).val, Shape.coordLt (j ⟨0, h.lt_r2_a1_0⟩) h.size_r2_a1_0⟩ k)) k := by
    refine ⟨fun q => ?_, fun q hq => ?_⟩
    · rcases h3 _ (hmem q) with h0 | h0
      · exact h0.le
      · exact h0.1.le
    · rcases h3 _ (hmem q) with h0 | h0
      · exact absurd hq h0.ne
      · have h0 := h0.2
        simp only [place_toInt] at h0
        exact Fin.le_def.2 (by omega)
  rw [hkn.unique hn]

/-- The pattern of minus infinity is the least value. -/
theorem ofBits_least : Ideal.ofBits .f32 0xFF800000#32 = ⊥ := by
  unfold Ideal.ofBits Ideal.ieee
  simp

/-- The places the fold of pairs answers. -/
def firstOf {n0 : ℕ} {t u : Shape} (x : (⟨2, ![n0, 1024]⟩ : Shape).Idx → EReal) (y : (⟨2, ![n0, 1024]⟩ : Shape).Idx → BitVec 32)
    (ix : u.Idx → EReal) (iy : u.Idx → BitVec 32) (h : (⟨2, ![n0, 1024]⟩ : Shape).ReducesTo [1] t) (hu : 0 < u.numel) : t.Idx → BitVec 32 := fun j =>
    (Host.argReduce (F := Ideal) (φ := .f32) (Cert.ReferenceIdeal.reducer_argmax_f32_i32 (F := Ideal)) x y ix iy h hu j).2
/-- The reference's positions, as those places. -/
theorem argPos_eq (s : Vec Ideal Cert.ReferenceIdeal.S8192x1024 .f32) :
    Cert.ReferenceIdeal.Val.argPos (F := Ideal) s  = firstOf s (iotaInDim Cert.ReferenceIdeal.S8192x1024 32 1) (constant (F := Ideal) Cert.ReferenceIdeal.S_ .f32 0xFF800000#32) (constantI Cert.ReferenceIdeal.S_ 32 0#32) Cert.ReferenceIdeal.Gen.reducesTo_S8192x1024_S8192_d1 Cert.ReferenceIdeal.Gen.h_S_ := rfl
/-- Each is its row's first greatest place. -/
theorem firstOf_eq {n0 : ℕ} {t u : Shape} (x : (⟨2, ![n0, 1024]⟩ : Shape).Idx → EReal) (y : (⟨2, ![n0, 1024]⟩ : Shape).Idx → BitVec 32)
    (ix : u.Idx → EReal) (iy : u.Idx → BitVec 32) (h : (⟨2, ![n0, 1024]⟩ : Shape).ReducesTo [1] t) (hu : 0 < u.numel) (j : t.Idx)
    (hy : ∀ a (k : Fin 1024), y (ix2 a k) = BitVec.ofNat 32 k.val) (hix : ix (Shape.Idx.first hu) = ⊥) (hiy : iy (Shape.Idx.first hu) = 0#32)
    (n : Fin 1024) (hn : FirstMax (fun k => x (ix2 ⟨(j ⟨0, h.lt_r2_a1_0⟩).val, Shape.coordLt (j ⟨0, h.lt_r2_a1_0⟩) h.size_r2_a1_0⟩ k)) n) :
    firstOf x y ix iy h hu j = BitVec.ofNat 32 n.val := argReduce_first x y ix iy h hu j hy hix hiy n hn
/-- The reference's position of a row. -/
theorem argPos_first (s : Vec Ideal Cert.ReferenceIdeal.S8192x1024 .f32) (r : Fin 8192) (n : Fin 1024) (hn : FirstMax (fun k => s (ix2 r k)) n) :
    Cert.ReferenceIdeal.Val.argPos (F := Ideal) s (ix1 r) = BitVec.ofNat 32 n.val := by
  rw [argPos_eq]
  exact firstOf_eq s _ _ _ Cert.ReferenceIdeal.Gen.reducesTo_S8192x1024_S8192_d1 Cert.ReferenceIdeal.Gen.h_S_ (ix1 r) (fun _ _ => rfl) ofBits_least rfl n hn

/-- A vector read as a matrix of one row. -/
theorem row_cast (v : IVec Cert.KernelIdeal.S2048 32) (j : Fin 2048) :
    shapeCast Cert.KernelIdeal.S1x2048 (shapeCast Cert.KernelIdeal.S1x2048 v Cert.KernelIdeal.Gen.shapeCasts_S2048_S1x2048) Cert.KernelIdeal.Gen.shapeCasts_S1x2048_S1x2048 (ix2 0 j)
      = v (ix1 j) := by
  pointwise
/-- The kernel's position of a row of its block. -/
theorem pos_first (x : Vec Ideal Cert.KernelIdeal.S2048x1024 .f32) (j : Fin 2048) (n : Fin 1024) (hn : FirstMax (fun k => x (ix2 j k)) n) :
    Cert.KernelIdeal.Gen.k0_pay3 (F := Ideal) x (ix2 0 j) = BitVec.ofNat 32 n.val := by
  unfold Cert.KernelIdeal.Gen.k0_pay3
  rw [row_cast]
  exact reduceIndex_first x Cert.KernelIdeal.Gen.reduces_S2048x1024_S2048 (ix1 j) n hn

end Cert.Val

end
-- ==== Proof.Words.lean ====
/- The integer words of a position: its column and row on the board, the same in the kernel and in the reference. -/
module

public import proofs.«01_k».proof.Proof.Argmax

@[expose] public section

set_option maxRecDepth 16384

noncomputable section

namespace Cert.Val

open Idealize.ShloMosaic

/-- The reference's column of a position. -/
theorem colOf_word (p : IVec Cert.ReferenceIdeal.S8192 32) (r : Fin 8192) (n : Fin 1024) (h : p (ix1 r) = BitVec.ofNat 32 n.val) :
    Cert.ReferenceIdeal.Val.colOf p (ix1 r) = BitVec.ofNat 32 (n.val % 32) := by
  unfold Cert.ReferenceIdeal.Val.colOf Cert.ReferenceIdeal.Val.remOf Cert.ReferenceIdeal.Val.safe Cert.ReferenceIdeal.Val.fill
  pointwise
  rw [h]
  clear h
  revert n
  decide +kernel

/-- The reference's row of a position. -/
theorem rowOf_word (p : IVec Cert.ReferenceIdeal.S8192 32) (r : Fin 8192) (n : Fin 1024) (h : p (ix1 r) = BitVec.ofNat 32 n.val) :
    Cert.ReferenceIdeal.Val.rowOf p (ix1 r) = BitVec.ofNat 32 (n.val / 32) := by
  unfold Cert.ReferenceIdeal.Val.rowOf Cert.ReferenceIdeal.Val.quotOf Cert.ReferenceIdeal.Val.fill
  pointwise
  rw [h]
  clear h
  revert n
  decide +kernel

/-- The kernel's column of a position. -/
theorem pay13_word (x : Vec Ideal Cert.KernelIdeal.S1x2048 .i32) (j : Fin 2048) (n : Fin 1024) (h : x (ix2 0 j) = BitVec.ofNat 32 n.val) :
    Cert.KernelIdeal.Gen.k0_pay13 (F := Ideal) x (ix2 0 j) = BitVec.ofNat 32 (n.val % 32) := by
  unfold Cert.KernelIdeal.Gen.k0_pay13
  pointwise
  rw [h]
  clear h
  revert n
  decide +kernel

/-- The kernel's end flag of a position. -/
theorem doneBlk_word (x : Vec Ideal Cert.KernelIdeal.S1x2048 .i32) (j : Fin 2048) (n : Fin 1024) (h : x (ix2 0 j) = BitVec.ofNat 32 n.val) :
    Cert.KernelIdeal.Val.doneBlk (F := Ideal) x (ix1 j) = if n.val = 1023 then 1#32 else 0#32 := by
  unfold Cert.KernelIdeal.Val.doneBlk Cert.KernelIdeal.Gen.k0_pay1
  pointwise
  rw [h]
  clear h
  revert n
  decide +kernel

/-- The reference's end flag of a position. -/
theorem doneOf_word (p : IVec Cert.ReferenceIdeal.S8192 32) (r : Fin 8192) (n : Fin 1024) (h : p (ix1 r) = BitVec.ofNat 32 n.val) :
    Cert.ReferenceIdeal.Val.doneOf p (ix1 r) = if n.val = 1023 then 1#1 else 0#1 := by
  unfold Cert.ReferenceIdeal.Val.doneOf Cert.ReferenceIdeal.Val.fill
  pointwise
  rw [colOf_word p r n h, rowOf_word p r n h]
  clear h
  revert n
  decide +kernel

end Cert.Val

end
-- ==== Proof.Cells.lean ====
/- Both programs' results of one state, as functions of its three logits and of the place of its largest coordinate. -/
module

public import proofs.«01_k».proof.Proof.Words

@[expose] public section

set_option maxRecDepth 16384

noncomputable section

namespace Cert.Val

open Idealize.ShloMosaic

/-- The constant both programs add to each probability. -/
abbrev small : EReal := Ideal.ofBits .f32 0x322BCC77#32

/-- A flag as a number. -/
def flag (b : Bool) : EReal := if b then 1 else 0

/-- The exponential of one logit less the largest of three. -/
def ex (a b c e : EReal) : EReal := Ideal.exp (e - max (max a b) c)

/-- The sum of the three exponentials. -/
def tot (a b c : EReal) : EReal := ex a b c a + ex a b c b + ex a b c c

/-- One weight before the last division, as the kernel computes it. -/
def wtK (a b c e : EReal) : EReal := ex a b c e * Ideal.div 1 (tot a b c) + small

/-- One weight before the last division, as the reference computes it. -/
def wtR (a b c e : EReal) : EReal := Ideal.div (ex a b c e) (tot a b c) + small

/-- Whether a step down, or a step to the right, stays on the board. -/
def down (n : Fin 1024) : EReal := flag (decide (n.val / 32 < 31))
def right (n : Fin 1024) : EReal := flag (decide (n.val % 32 < 31))

theorem sitofp_flag (w : BitVec 1) : FloatOps.sitofp (F := Ideal) .f32 (BitVec.setWidth 32 w) = flag (w == 1#1) := by
  have h : w = 0#1 ∨ w = 1#1 := by revert w; decide
  show ((((BitVec.setWidth 32 w).toInt : ℝ)) : EReal) = _
  rcases h with rfl | rfl
  · have : (BitVec.setWidth 32 0#1).toInt = 0 := by decide
    rw [this]; simp [flag]
  · have : (BitVec.setWidth 32 1#1).toInt = 1 := by decide
    rw [this]; simp [flag]

theorem uitofp_flag (w : BitVec 1) : FloatOps.uitofp (F := Ideal) .f32 w = flag (w == 1#1) := by
  have h : w = 0#1 ∨ w = 1#1 := by revert w; decide
  show (((w.toNat : ℝ)) : EReal) = _
  rcases h with rfl | rfl
  · simp [flag]
  · simp [flag]

theorem col_bit : ∀ n : Fin 1024, (IntOp.cmpi .slt (BitVec.ofNat 32 (n.val % 32)) 31#32 == 1#1) = decide (n.val % 32 < 31) := by decide +kernel

theorem row_bit : ∀ n : Fin 1024, (IntOp.cmpi .slt (BitVec.ofNat 32 (n.val / 32)) 31#32 == 1#1) = decide (n.val / 32 < 31) := by decide +kernel

section Kernel

open Cert.KernelIdeal Cert.KernelIdeal.Gen

theorem krow_bit : ∀ n : Fin 1024,
    (IntOp.cmpi .slt
      (Scalar.select
        (IntOp.andi
          (IntOp.cmpi .ne
            (IntOp.subi (BitVec.setWidth 32 (IntOp.cmpi .sgt (BitVec.ofNat 32 n.val) 0#32))
              (BitVec.setWidth 32 (IntOp.cmpi .slt (BitVec.ofNat 32 n.val) 0#32)))
            (Scalar.subi (Scalar.extui (Scalar.cmpi .sgt 32#32 0#32)) (Scalar.extui (Scalar.cmpi .slt 32#32 0#32))))
          (IntOp.cmpi .ne (IntOp.remsi .vector (BitVec.ofNat 32 n.val) 32#32) 0#32))
        (IntOp.subi (IntOp.divsi .vector (BitVec.ofNat 32 n.val) 32#32) 1#32)
        (IntOp.divsi .vector (BitVec.ofNat 32 n.val) 32#32))
      31#32 == 1#1) = decide (n.val / 32 < 31) := by decide +kernel

variable (l : Vec Ideal S8x2048 .f32) (x : Vec Ideal S1x2048 .i32) (j : Fin 2048) (n : Fin 1024)

theorem pay9_at : k0_pay9 (F := Ideal) l (ix2 0 j) = ex (l (ix2 0 j)) (l (ix2 1 j)) (l (ix2 2 j)) (l (ix2 0 j)) := by
  unfold k0_pay9 k0_pay8 k0_pay5 k0_pay6 k0_pay7
  pointwise
  rfl

theorem pay10_at : k0_pay10 (F := Ideal) l (ix2 0 j) = ex (l (ix2 0 j)) (l (ix2 1 j)) (l (ix2 2 j)) (l (ix2 1 j)) := by
  unfold k0_pay10 k0_pay8 k0_pay5 k0_pay6 k0_pay7
  pointwise
  rfl

theorem pay11_at : k0_pay11 (F := Ideal) l (ix2 0 j) = ex (l (ix2 0 j)) (l (ix2 1 j)) (l (ix2 2 j)) (l (ix2 2 j)) := by
  unfold k0_pay11 k0_pay8 k0_pay5 k0_pay6 k0_pay7
  pointwise
  rfl

theorem pay12_at : k0_pay12 (F := Ideal) l (ix2 0 j) = Ideal.div 1 (tot (l (ix2 0 j)) (l (ix2 1 j)) (l (ix2 2 j))) := by
  have e : k0_pay12 (F := Ideal) l (ix2 0 j) = Ideal.div 1 (k0_pay9 (F := Ideal) l (ix2 0 j) + k0_pay10 (F := Ideal) l (ix2 0 j) + k0_pay11 (F := Ideal) l (ix2 0 j)) := by
    unfold k0_pay12
    pointwise
  rw [e, pay9_at, pay10_at, pay11_at]
  rfl

/-- The kernel's three masked weights of one state, and the reciprocal of their sum. -/
def k0w : EReal := down n * wtK (l (ix2 0 j)) (l (ix2 1 j)) (l (ix2 2 j)) (l (ix2 0 j))
def k1w : EReal := right n * wtK (l (ix2 0 j)) (l (ix2 1 j)) (l (ix2 2 j)) (l (ix2 1 j))
def k2w : EReal := wtK (l (ix2 0 j)) (l (ix2 1 j)) (l (ix2 2 j)) (l (ix2 2 j))
def kinv : EReal := Ideal.div 1 (k0w l j n + k1w l j n + k2w l j)

/-- The kernel's three probabilities of one state. -/
theorem probsBlk_0 (h : x (ix2 0 j) = BitVec.ofNat 32 n.val) : Cert.KernelIdeal.Val.probsBlk (F := Ideal) l x (ix2 0 j) = k0w l j n * kinv l j n := by
  unfold Cert.KernelIdeal.Val.probsBlk k0_pay17 k0_pay14 k0_pay15 k0_pay16
  pointwise
  rw [sitofp_flag, sitofp_flag, pay13_word x j n h, h, krow_bit, col_bit, pay9_at, pay10_at, pay11_at, pay12_at]
  rfl
theorem probsBlk_1 (h : x (ix2 0 j) = BitVec.ofNat 32 n.val) : Cert.KernelIdeal.Val.probsBlk (F := Ideal) l x (ix2 1 j) = k1w l j n * kinv l j n := by
  unfold Cert.KernelIdeal.Val.probsBlk k0_pay17 k0_pay14 k0_pay15 k0_pay16
  pointwise
  rw [sitofp_flag, sitofp_flag, pay13_word x j n h, h, krow_bit, col_bit, pay9_at, pay10_at, pay11_at, pay12_at]
  rfl
theorem probsBlk_2 (h : x (ix2 0 j) = BitVec.ofNat 32 n.val) : Cert.KernelIdeal.Val.probsBlk (F := Ideal) l x (ix2 2 j) = k2w l j * kinv l j n := by
  unfold Cert.KernelIdeal.Val.probsBlk k0_pay17 k0_pay14 k0_pay15 k0_pay16
  pointwise
  rw [sitofp_flag, sitofp_flag, pay13_word x j n h, h, krow_bit, col_bit, pay9_at, pay10_at, pay11_at, pay12_at]
  rfl

end Kernel

section Reference

open Cert.ReferenceIdeal.Val

variable (l : Vec Ideal Cert.ReferenceIdeal.S8192x3 .f32) (p : IVec Cert.ReferenceIdeal.S8192 32) (r : Fin 8192) (n : Fin 1024)

/-- The largest of three, folded from the least value. -/
theorem fold_max_three (f : Fin 3 → EReal) : max (⊥ : EReal) (Finset.fold max ⊥ f Finset.univ) = max (max (f 0) (f 1)) (f 2) := by
  have e : (Finset.univ : Finset (Fin 3)) = {0, 1, 2} := rfl
  rw [e, Finset.fold_insert (by decide), Finset.fold_insert (by decide), Finset.fold_singleton]
  simp [max_assoc]

theorem expo_at (q : Fin 3) : expo (F := Ideal) l (ix2 r q) = ex (l (ix2 r 0)) (l (ix2 r 1)) (l (ix2 r 2)) (l (ix2 r q)) := by
  unfold expo perRow
  pointwise
  rw [ofBits_least, fold_max_three]
  rfl

theorem overSum_at (q : Fin 3) : overSum (F := Ideal) l (ix2 r q) = Ideal.div (l (ix2 r q)) (l (ix2 r 0) + l (ix2 r 1) + l (ix2 r 2)) := by
  unfold overSum perRow
  pointwise
  rw [Fin.sum_univ_three]

theorem soft_at (q : Fin 3) : overSum (F := Ideal) (expo l) (ix2 r q) = Ideal.div (ex (l (ix2 r 0)) (l (ix2 r 1)) (l (ix2 r 2)) (l (ix2 r q))) (tot (l (ix2 r 0)) (l (ix2 r 1)) (l (ix2 r 2))) := by
  rw [overSum_at, expo_at, expo_at, expo_at, expo_at]
  rfl

theorem mask_0 (h : p (ix1 r) = BitVec.ofNat 32 n.val) : maskOf (F := Ideal) p (ix2 r 0) = down n := by
  have hr := rowOf_word p r n h
  unfold maskOf fill
  pointwise
  rw [hr, uitofp_flag, row_bit]
  rfl
theorem mask_1 (h : p (ix1 r) = BitVec.ofNat 32 n.val) : maskOf (F := Ideal) p (ix2 r 1) = right n := by
  have hr := colOf_word p r n h
  unfold maskOf fill
  pointwise
  rw [hr, uitofp_flag, col_bit]
  rfl
theorem mask_2 : maskOf (F := Ideal) p (ix2 r 2) = 1 := by
  unfold maskOf fill
  pointwise

theorem masked_at (q : Fin 3) : masked (F := Ideal) l p (ix2 r q) = maskOf (F := Ideal) p (ix2 r q) * wtR (l (ix2 r 0)) (l (ix2 r 1)) (l (ix2 r 2)) (l (ix2 r q)) := by
  unfold masked
  pointwise
  rw [soft_at]
  rfl

/-- The reference's three masked weights of one state. -/
def r0w : EReal := down n * wtR (l (ix2 r 0)) (l (ix2 r 1)) (l (ix2 r 2)) (l (ix2 r 0))
def r1w : EReal := right n * wtR (l (ix2 r 0)) (l (ix2 r 1)) (l (ix2 r 2)) (l (ix2 r 1))
def r2w : EReal := 1 * wtR (l (ix2 r 0)) (l (ix2 r 1)) (l (ix2 r 2)) (l (ix2 r 2))

/-- The reference's three probabilities of one state. -/
theorem probsOf_0 (h : p (ix1 r) = BitVec.ofNat 32 n.val) : probsOf (F := Ideal) l p (ix2 r 0) = Ideal.div (r0w l r n) (r0w l r n + r1w l r n + r2w l r) := by
  unfold probsOf
  rw [overSum_at, masked_at, masked_at, masked_at, mask_0 p r n h, mask_1 p r n h, mask_2]
  rfl
theorem probsOf_1 (h : p (ix1 r) = BitVec.ofNat 32 n.val) : probsOf (F := Ideal) l p (ix2 r 1) = Ideal.div (r1w l r n) (r0w l r n + r1w l r n + r2w l r) := by
  unfold probsOf
  rw [overSum_at, masked_at, masked_at, masked_at, mask_0 p r n h, mask_1 p r n h, mask_2]
  rfl
theorem probsOf_2 (h : p (ix1 r) = BitVec.ofNat 32 n.val) : probsOf (F := Ideal) l p (ix2 r 2) = Ideal.div (r2w l r) (r0w l r n + r1w l r n + r2w l r) := by
  unfold probsOf
  rw [overSum_at, masked_at, masked_at, masked_at, mask_0 p r n h, mask_1 p r n h, mask_2]
  rfl

end Reference

end Cert.Val

end
-- ==== Proof.Numbers.lean ====
/- On finite logits the kernel's and the reference's results of one state are the same numbers. -/
module

public import proofs.«01_k».proof.Proof.Cells

@[expose] public section

set_option maxRecDepth 16384

noncomputable section

namespace Cert.Val

open Idealize.ShloMosaic

/-- A value that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy
  exact ⟨a + b, (EReal.coe_add a b).symm⟩

theorem Fin'.mul {x y : EReal} (hx : Fin' x) (hy : Fin' y) : Fin' (x * y) := by
  obtain ⟨a, rfl⟩ := hx; obtain ⟨b, rfl⟩ := hy
  exact ⟨a * b, (EReal.coe_mul a b).symm⟩

theorem Fin'.max {x y : EReal} (hx : Fin' x) (hy : Fin' y) : Fin' (max x y) := by
  rcases max_choice x y with h | h <;> rw [h] <;> assumption

theorem Fin'.zero : Fin' 0 := ⟨0, rfl⟩

theorem Fin'.sum {ι : Type} (S : Finset ι) (f : ι → EReal) (h : ∀ i, Fin' (f i)) : Fin' (∑ i ∈ S, f i) :=
  Finset.sum_induction f Fin' (fun _ _ => Fin'.add) Fin'.zero fun i _ => h i

/-- A division of real numbers by one that is not zero. -/
theorem div_coe (x y : ℝ) (hy : y ≠ 0) : Ideal.div (x : EReal) (y : EReal) = ((x * y⁻¹ : ℝ) : EReal) := by
  unfold Ideal.div
  rw [if_neg (by exact_mod_cast hy), EReal.coe_mul, EReal.coe_inv]

/-- The added constant is a positive real number. -/
theorem small_real : ∃ e : ℝ, 0 < e ∧ small = (e : EReal) := by
  unfold small Ideal.ofBits Ideal.ieee
  simp
  refine ⟨11258999 * (2 ^ 50)⁻¹, by positivity, ?_⟩
  rw [EReal.coe_mul, EReal.coe_inv]
  try rfl

theorem flag_real (b : Bool) : ∃ e : ℝ, 0 ≤ e ∧ flag b = (e : EReal) := by
  cases b
  · exact ⟨0, le_rfl, rfl⟩
  · exact ⟨1, zero_le_one, rfl⟩

theorem coe_max (a b : ℝ) : ((max a b : ℝ) : EReal) = max (a : EReal) (b : EReal) := EReal.coe_strictMono.monotone.map_max

theorem ex_real (a b c e : ℝ) : ex a b c e = ((Real.exp (e - max (max a b) c) : ℝ) : EReal) := by
  unfold ex
  rw [← coe_max, ← coe_max, ← EReal.coe_sub]
  rfl

section

variable (a b c : ℝ)

/-- The weights' real number. -/
def wt (s e : ℝ) : ℝ := Real.exp (e - max (max a b) c) * (Real.exp (a - max (max a b) c) + Real.exp (b - max (max a b) c) + Real.exp (c - max (max a b) c))⁻¹ + s

theorem tot_pos : 0 < Real.exp (a - max (max a b) c) + Real.exp (b - max (max a b) c) + Real.exp (c - max (max a b) c) := by positivity

theorem tot_real : tot a b c = ((Real.exp (a - max (max a b) c) + Real.exp (b - max (max a b) c) + Real.exp (c - max (max a b) c) : ℝ) : EReal) := by
  unfold tot
  rw [ex_real, ex_real, ex_real, EReal.coe_add, EReal.coe_add]

theorem wtR_real (s e : ℝ) (hs : small = (s : EReal)) : wtR a b c e = (wt a b c s e : EReal) := by
  unfold wtR wt
  rw [tot_real, ex_real, hs, div_coe _ _ (tot_pos a b c).ne', ← EReal.coe_add]

theorem wtK_real (s e : ℝ) (hs : small = (s : EReal)) : wtK a b c e = (wt a b c s e : EReal) := by
  unfold wtK wt
  rw [tot_real, ex_real, hs, ← EReal.coe_one, div_coe _ _ (tot_pos a b c).ne', ← EReal.coe_mul, ← EReal.coe_add, one_mul]

theorem wt_pos (s e : ℝ) (hs : 0 < s) : 0 < wt a b c s e := by
  unfold wt
  have := tot_pos a b c
  positivity

end

/-- Multiplying by the reciprocal of a sum and dividing by it are the same, where the last weight is positive. -/
theorem share (u v w z : ℝ) (hu : 0 ≤ u) (hv : 0 ≤ v) (hw : 0 < w) :
    (z : EReal) * Ideal.div 1 ((u : EReal) + v + w) = Ideal.div z ((u : EReal) + v + w) := by
  have h : u + v + w ≠ 0 := by positivity
  rw [← EReal.coe_add, ← EReal.coe_add, ← EReal.coe_one, div_coe _ _ h, div_coe _ _ h, ← EReal.coe_mul, one_mul]

section

variable (lk : Vec Ideal Cert.KernelIdeal.S8x2048 .f32) (j : Fin 2048) (lr : Vec Ideal Cert.ReferenceIdeal.S8192x3 .f32) (r : Fin 8192) (n : Fin 1024)

/-- The same finite logits give the same weights, which are real numbers, none negative and the last positive. -/
theorem weights (h0 : lk (ix2 0 j) = lr (ix2 r 0)) (h1 : lk (ix2 1 j) = lr (ix2 r 1)) (h2 : lk (ix2 2 j) = lr (ix2 r 2)) (hf : ∀ q, Fin' (lr (ix2 r q))) :
    ∃ u v w : ℝ, 0 ≤ u ∧ 0 ≤ v ∧ 0 < w ∧ k0w lk j n = u ∧ k1w lk j n = v ∧ k2w lk j = w ∧ r0w lr r n = u ∧ r1w lr r n = v ∧ r2w lr r = w := by
  obtain ⟨a, ha⟩ := hf 0
  obtain ⟨b, hb⟩ := hf 1
  obtain ⟨c, hc⟩ := hf 2
  obtain ⟨s, hs, es⟩ := small_real
  obtain ⟨d, hd, ed⟩ := flag_real (decide (n.val / 32 < 31))
  obtain ⟨g, hg, eg⟩ := flag_real (decide (n.val % 32 < 31))
  refine ⟨d * wt a b c s a, g * wt a b c s b, wt a b c s c, mul_nonneg hd (wt_pos a b c s a hs).le, mul_nonneg hg (wt_pos a b c s b hs).le, wt_pos a b c s c hs, ?_, ?_, ?_, ?_, ?_, ?_⟩
  · unfold k0w down; rw [h0, h1, h2, ha, hb, hc, ed, wtK_real _ _ _ _ _ es, EReal.coe_mul]
  · unfold k1w right; rw [h0, h1, h2, ha, hb, hc, eg, wtK_real _ _ _ _ _ es, EReal.coe_mul]
  · unfold k2w; rw [h0, h1, h2, ha, hb, hc, wtK_real _ _ _ _ _ es]
  · unfold r0w down; rw [ha, hb, hc, ed, wtR_real _ _ _ _ _ es, EReal.coe_mul]
  · unfold r1w right; rw [ha, hb, hc, eg, wtR_real _ _ _ _ _ es, EReal.coe_mul]
  · unfold r2w; rw [ha, hb, hc, wtR_real _ _ _ _ _ es, one_mul]

/-- The kernel's and the reference's probabilities of one state. -/
theorem probs_eq (x : Vec Ideal Cert.KernelIdeal.S1x2048 .i32) (p : IVec Cert.ReferenceIdeal.S8192 32) (hx : x (ix2 0 j) = BitVec.ofNat 32 n.val) (hp : p (ix1 r) = BitVec.ofNat 32 n.val)
    (h0 : lk (ix2 0 j) = lr (ix2 r 0)) (h1 : lk (ix2 1 j) = lr (ix2 r 1)) (h2 : lk (ix2 2 j) = lr (ix2 r 2)) (hf : ∀ q, Fin' (lr (ix2 r q))) (q : Fin 3) :
    Cert.KernelIdeal.Val.probsBlk (F := Ideal) lk x (ix2 q j) = Cert.ReferenceIdeal.Val.probsOf (F := Ideal) lr p (ix2 r q) := by
  obtain ⟨u, v, w, hu, hv, hw, e0, e1, e2, f0, f1, f2⟩ := weights lk j lr r n h0 h1 h2 hf
  have hi : kinv lk j n = Ideal.div 1 ((u : EReal) + v + w) := by unfold kinv; rw [e0, e1, e2]
  match q with
  | 0 => rw [probsBlk_0 lk x j n hx, probsOf_0 lr p r n hp, hi, e0, f0, f1, f2]; exact share u v w u hu hv hw
  | 1 => rw [probsBlk_1 lk x j n hx, probsOf_1 lr p r n hp, hi, e1, f0, f1, f2]; exact share u v w v hu hv hw
  | 2 => rw [probsBlk_2 lk x j n hx, probsOf_2 lr p r n hp, hi, e2, f0, f1, f2]; exact share u v w w hu hv hw

end

end Cert.Val

end
-- ==== Proof.Layers.lean ====
/- The kernel's logits are the reference's, where the biases are zero; and they are finite where the arguments are. -/
module

public import proofs.«01_k».proof.Proof.Numbers

@[expose] public section

set_option maxRecDepth 16384

noncomputable section

namespace Cert.Val

open Idealize.ShloMosaic

variable (s : Vec Ideal Cert.ReferenceIdeal.S8192x1024 .f32) (w1 : Vec Ideal Cert.ReferenceIdeal.S1024x1024 .f32) (b1 : Vec Ideal Cert.ReferenceIdeal.S1024 .f32)
  (w2 : Vec Ideal Cert.ReferenceIdeal.S1024x3 .f32) (b2 : Vec Ideal Cert.ReferenceIdeal.S3 .f32)

/-- The reference's logits where the biases are zero. -/
theorem logits_at (hb1 : ∀ k, b1 (ix1 k) = 0) (hb2 : ∀ k, b2 (ix1 k) = 0) (r : Fin 8192) (q : Fin 3) :
    Cert.ReferenceIdeal.Val.logits (F := Ideal) s w1 b1 w2 b2 (ix2 r q) = ∑ k : Fin 1024, max (∑ d : Fin 1024, s (ix2 r d) * w1 (ix2 d k)) 0 * w2 (ix2 k q) := by
  unfold Cert.ReferenceIdeal.Val.logits
  pointwise
  simp only [hb1, hb2, add_zero]

/-- They are finite where the arguments are. -/
theorem logits_fin (hb1 : ∀ k, b1 (ix1 k) = 0) (hb2 : ∀ k, b2 (ix1 k) = 0) (hs : ∀ r k, Fin' (s (ix2 r k))) (h1 : ∀ r k, Fin' (w1 (ix2 r k))) (h2 : ∀ r k, Fin' (w2 (ix2 r k)))
    (r : Fin 8192) (q : Fin 3) : Fin' (Cert.ReferenceIdeal.Val.logits (F := Ideal) s w1 b1 w2 b2 (ix2 r q)) := by
  rw [logits_at s w1 b1 w2 b2 hb1 hb2]
  exact Fin'.sum _ _ fun k => ((Fin'.sum _ _ fun d => (hs r d).mul (h1 d k)).max Fin'.zero).mul (h2 k q)

/-- The kernel's logits of a block. -/
theorem pay2_at (x : Vec Ideal Cert.KernelIdeal.S2048x1024 .f32) (y : Vec Ideal Cert.KernelIdeal.S1024x1024 .f32) (v : Vec Ideal Cert.KernelIdeal.S8x1024 .bf16) (q : Fin 8) (j : Fin 2048) :
    Cert.KernelIdeal.Gen.k0_pay2 (F := Ideal) x (Cert.KernelIdeal.Gen.k0_pay4 (F := Ideal) y) v (ix2 q j)
      = ∑ k : Fin 1024, (v (ix2 q k) : EReal) * max (∑ d : Fin 1024, (x (ix2 j d) : EReal) * (y (ix2 d k) : EReal)) 0 := by
  unfold Cert.KernelIdeal.Gen.k0_pay2 Cert.KernelIdeal.Gen.k0_pay4
  pointwise

/-- The kernel's logits of a block are the reference's of the block's rows. -/
theorem logit_eq (x : Vec Ideal Cert.KernelIdeal.S2048x1024 .f32) (y : Vec Ideal Cert.KernelIdeal.S1024x1024 .f32) (v : Vec Ideal Cert.KernelIdeal.S8x1024 .bf16)
    (hb1 : ∀ k, b1 (ix1 k) = 0) (hb2 : ∀ k, b2 (ix1 k) = 0) (j : Fin 2048) (r : Fin 8192) (q : Fin 3) (q' : Fin 8)
    (hx : ∀ d, x (ix2 j d) = s (ix2 r d)) (hy : y = w1) (hv : ∀ k, v (ix2 q' k) = w2 (ix2 k q)) :
    Cert.KernelIdeal.Gen.k0_pay2 (F := Ideal) x (Cert.KernelIdeal.Gen.k0_pay4 (F := Ideal) y) v (ix2 q' j) = Cert.ReferenceIdeal.Val.logits (F := Ideal) s w1 b1 w2 b2 (ix2 r q) := by
  rw [logits_at s w1 b1 w2 b2 hb1 hb2, pay2_at]
  subst hy
  refine Finset.sum_congr rfl fun k _ => ?_
  rw [hv k, mul_comm]
  simp only [hx]

end Cert.Val

end
-- ==== Proof.KValue.lean ====
/- The kernel's two results: the blocks the grid writes, put together, are the reference's results re-laid. -/
module

public import proofs.«01_k».proof.Proof.KLaunch
public import proofs.«01_k».proof.Proof.Layers
public import Idealize.ShloMosaic.Lib.Pipeline.ValueKit.Geometry

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

/-- The padded transpose of the second weight matrix. -/
def w2t (x : FVec Ideal S1024x3 .f32) : FVec Ideal S8x1024 .bf16 :=
  truncf (F := Ideal) .bf16 (pad S8x1024 ![0, 0] ![5, 0] ![0, 0] (transpose S3x1024 [1, 0] x transposes_S1024x3_S3x1024_1_0)
    (sitofp (F := Ideal) .f32 (constantI S_ 32 0#32)) pads_S3x1024_S8x1024_050_000 h_S_) bitsLt_bf16_f32

/-- The region finds it in the third window's array. -/
theorem V_v2 : V m c main_v2 = w2t (m ((c : Thread nD τ).loc main_arg3)) := by
  entry_read
  rfl

/-- Its first three rows are the weight matrix's columns. -/
theorem w2t_at (x : FVec Ideal S1024x3 .f32) (q : Fin 3) (q' : Fin 8) (hq : q'.val = q.val) (k : Fin 1024) : w2t x (ix2 q' k) = x (ix2 k q) := by
  have hlt := q.isLt
  unfold w2t
  pointwise
  rw [dif_pos (by omega)]
  exact congrArg (fun z => x (ix2 k z)) (Fin.ext hq)

/-- Where the windows' blocks lie. -/
theorem index_0 : ∀ t : Fin cfg0.N, win0_0.index t = ![min t.val 3, 0] := (by decide +kernel : ∀ t : Fin grid0.N, win0_0.index t = ![min t.val 3, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, t.val - 1] := (by decide +kernel : ∀ t : Fin grid0.N, win0_3.index t = ![0, t.val - 1])
theorem index_4 : ∀ t : Fin cfg0.N, win0_4.index t = ![t.val - 1] := (by decide +kernel : ∀ t : Fin grid0.N, win0_4.index t = ![t.val - 1])

/-- The outputs are written back after every step but the first. -/
theorem flush_3 : ∀ t : Fin cfg0.N, (cfg0.win 3).flush t = true → t.val ≠ 0 := (by decide +kernel : ∀ t : Fin grid0.N, win0_3.flush t = true → t.val ≠ 0)
theorem flush_4 : ∀ t : Fin cfg0.N, (cfg0.win 4).flush t = true → t.val ≠ 0 := (by decide +kernel : ∀ t : Fin grid0.N, win0_4.flush t = true → t.val ≠ 0)

theorem covers_3 : (cfg0.win 3).Covers := by decide +kernel
theorem covers_4 : (cfg0.win 4).Covers := by decide +kernel

/-- The input blocks at coordinates. -/
theorem iblk_0 (n : ℕ) (hn : n < 4) (j : Fin 2048) (d : Fin 1024) (r : Fin 8192) (hr : r.val = n * 2048 + j.val) :
    (iblk m c 0 (src n) : Vec Ideal S2048x1024 .f32) (ix2 j d) = (m ((c : Thread nD τ).loc main_arg0) : Vec Ideal S8192x1024 .f32) (ix2 r d) := by
  rw [← V_main_arg0 m c]
  blk_simp [iblk]
  refine congrArg _ ?_
  have e : win0_0.index (src n) = ![n, 0] := by rw [index_0]; show ![min (min n 3) 3, 0] = _; rw [Nat.min_eq_left (by omega), Nat.min_eq_left (by omega)]
  blk_ext [e]

theorem iblk_1 (t : Fin cfg0.N) : (iblk m c 1 t : Vec Ideal S1024x1024 .f32) = m ((c : Thread nD τ).loc main_arg1) := by
  rw [← V_main_arg1 m c]
  funext y
  blk_simp [iblk]
  refine congrArg _ ?_
  blk_ext [index_1]

theorem iblk_2 (t : Fin cfg0.N) : (iblk m c 2 t : Vec Ideal S8x1024 .bf16) = V m c main_v2 := by
  funext y
  blk_simp [iblk]
  refine congrArg _ ?_
  blk_ext [index_2]

section

variable (lg : Vec Ideal Cert.ReferenceIdeal.S8192x3 .f32) (p : IVec Cert.ReferenceIdeal.S8192 32)

/-- The first result before the last transpose. -/
def G3 : Vec Ideal S3x8192 .f32 := fun i => Cert.ReferenceIdeal.Val.probsOf (F := Ideal) lg p (ix2 (⟨(i 1).val, (i 1).isLt⟩ : Fin 8192) (⟨(i 0).val, (i 0).isLt⟩ : Fin 3))

/-- The second result before it is read as flags. -/
def G4 : IVec S8192 32 := fun i => BitVec.setWidth 32 (Cert.ReferenceIdeal.Val.doneOf p (ix1 (⟨(i 0).val, (i 0).isLt⟩ : Fin 8192)))

/-- What a block's step prepares is the reference's rows, where its logits and positions are. -/
theorem final_3 (h : ∀ n, n < 4 → ∀ (j : Fin 2048) (r : Fin 8192), r.val = n * 2048 + j.val → ∀ q : Fin 3,
      probsBlk (F := Ideal) (lgs m c n) (pos m c n) (ix2 q j) = Cert.ReferenceIdeal.Val.probsOf (F := Ideal) lg p (ix2 r q)) :
    (dats m 0 c).arrAt 3 cfg0.N = G3 lg p := by
  refine (dats m 0 c).arrAt_eq_of_covers 3 _ covers_3 fun t hf y => ?_
  have h0 := flush_3 t hf
  have hN : t.val < 5 := t.isLt
  blk_simp
  rw [after_3]
  idx_vars y
  have hy1 := y1.isLt
  have hb : (t.val - 1) * 2048 + y1.val < 8192 := by omega
  rw [h (t.val - 1) (by omega) y1 ⟨(t.val - 1) * 2048 + y1.val, hb⟩ rfl y0]
  have e0 : ((((View.whole main_v3_0).slice (win0_3.rect t)).emb (ix2 y0 y1) 0 : Fin _) : ℕ) = y0.val := by
    blk_simp [index_3]
  have e1 : ((((View.whole main_v3_0).slice (win0_3.rect t)).emb (ix2 y0 y1) 1 : Fin _) : ℕ) = (t.val - 1) * 2048 + y1.val := by
    blk_simp [index_3]
  unfold G3
  exact congrArg₂ (fun a b => Cert.ReferenceIdeal.Val.probsOf (F := Ideal) lg p (ix2 a b)) (Fin.ext e1.symm) (Fin.ext e0.symm)

theorem final_4 (h : ∀ n, n < 4 → ∀ (j : Fin 2048) (r : Fin 8192), r.val = n * 2048 + j.val →
      doneBlk (F := Ideal) (pos m c n) (ix1 j) = BitVec.setWidth 32 (Cert.ReferenceIdeal.Val.doneOf p (ix1 r))) :
    (dats m 0 c).arrAt 4 cfg0.N = G4 p := by
  refine (dats m 0 c).arrAt_eq_of_covers 4 _ covers_4 fun t hf y => ?_
  have h0 := flush_4 t hf
  have hN : t.val < 5 := t.isLt
  blk_simp
  rw [after_4]
  idx_vars y
  have hy1 := y0.isLt
  have hb : (t.val - 1) * 2048 + y0.val < 8192 := by omega
  rw [h (t.val - 1) (by omega) y0 ⟨(t.val - 1) * 2048 + y0.val, hb⟩ rfl]
  have e0 : ((((View.whole main_v3_1).slice (win0_4.rect t)).emb (ix1 y0) 0 : Fin _) : ℕ) = (t.val - 1) * 2048 + y0.val := by
    blk_simp [index_4]
  unfold G4
  exact congrArg (fun a => BitVec.setWidth 32 (Cert.ReferenceIdeal.Val.doneOf p (ix1 a))) (Fin.ext e0.symm)

end

/-- The first result as main leaves it. -/
theorem tail_v7 : Pipeline.afterTail₀ cfgs (dats m) 0 (V0 m) [hostOps1] c main_v7
    = transpose S8192x3 [1, 0] ((dats m 0 c).arrAt 3 cfg0.N : Vec Ideal S3x8192 .f32) transposes_S3x8192_S8192x3_1_0 := by
  unfold Pipeline.afterTail₀
  after_reads_simp
  have e := Pipeline.withArrays_arr spec0 launch0.win.arr_inj c (V0 m c) (fun w => (dats m 0 c).arrAt w cfg0.N) 3
  exact congrArg (fun x : Vec Ideal S3x8192 .f32 => transpose S8192x3 [1, 0] x transposes_S3x8192_S8192x3_1_0) e

theorem tail_v6 : Pipeline.afterTail₀ cfgs (dats m) 0 (V0 m) [hostOps1] c main_v6
    = cmpi .ne ((dats m 0 c).arrAt 4 cfg0.N : IVec S8192 32) (broadcastInDim S8192 ![] bcast_S_S8192 (constantI S_ 32 0#32)) := by
  unfold Pipeline.afterTail₀
  after_reads_simp
  have e := Pipeline.withArrays_arr spec0 launch0.win.arr_inj c (V0 m c) (fun w => (dats m 0 c).arrAt w cfg0.N) 4
  exact congrArg (fun x : IVec S8192 32 => cmpi .ne x (broadcastInDim S8192 ![] bcast_S_S8192 (constantI S_ 32 0#32))) e

section

variable (s : Vec Ideal Cert.ReferenceIdeal.S8192x1024 .f32) (w1 : Vec Ideal Cert.ReferenceIdeal.S1024x1024 .f32) (b1 : Vec Ideal Cert.ReferenceIdeal.S1024 .f32)
  (w2 : Vec Ideal Cert.ReferenceIdeal.S1024x3 .f32) (b2 : Vec Ideal Cert.ReferenceIdeal.S3 .f32)

/-- The step's positions are the rows' first greatest places. -/
theorem pos_word (es : m ((c : Thread nD τ).loc main_arg0) = s) (n : ℕ) (hn : n < 4) (j : Fin 2048) (r : Fin 8192) (hr : r.val = n * 2048 + j.val) :
    ∃ k : Fin 1024, pos m c n (ix2 0 j) = BitVec.ofNat 32 k.val ∧ Cert.ReferenceIdeal.Val.argPos (F := Ideal) s (ix1 r) = BitVec.ofNat 32 k.val := by
  obtain ⟨k, hk⟩ := Cert.Val.exists_firstMax fun d => s (ix2 r d)
  refine ⟨k, Cert.Val.pos_first _ j k ?_, Cert.Val.argPos_first s r k hk⟩
  have e : (fun d => (iblk m c 0 (src n) : Vec Ideal S2048x1024 .f32) (ix2 j d)) = fun d => s (ix2 r d) := funext fun d => (iblk_0 m c n hn j d r hr).trans (congrFun es _)
  rw [e]
  exact hk

/-- The step's logits are the reference's of the block's rows. -/
theorem lgs_eq (es : m ((c : Thread nD τ).loc main_arg0) = s) (e1 : m ((c : Thread nD τ).loc main_arg1) = w1) (e3 : m ((c : Thread nD τ).loc main_arg3) = w2)
    (hb1 : ∀ k, b1 (ix1 k) = 0) (hb2 : ∀ k, b2 (ix1 k) = 0)
    (n : ℕ) (hn : n < 4) (j : Fin 2048) (r : Fin 8192) (hr : r.val = n * 2048 + j.val) (q : Fin 3) (q' : Fin 8) (hq : q'.val = q.val) :
    lgs m c n (ix2 q' j) = Cert.ReferenceIdeal.Val.logits (F := Ideal) s w1 b1 w2 b2 (ix2 r q) := by
  unfold lgs wts
  refine Cert.Val.logit_eq s w1 b1 w2 b2 _ _ _ hb1 hb2 j r q q' (fun d => (iblk_0 m c n hn j d r hr).trans (congrFun es _)) ((iblk_1 m c _).trans e1) fun k => ?_
  rw [iblk_2, V_v2, w2t_at _ q q' hq k]
  exact congrFun e3 _

/-- The kernel's two results. -/
theorem results (es : m ((c : Thread nD τ).loc main_arg0) = s) (e1 : m ((c : Thread nD τ).loc main_arg1) = w1) (e3 : m ((c : Thread nD τ).loc main_arg3) = w2)
    (hb1 : ∀ k, b1 (ix1 k) = 0) (hb2 : ∀ k, b2 (ix1 k) = 0) (hs : ∀ r k, Cert.Val.Fin' (s (ix2 r k))) (h1 : ∀ r k, Cert.Val.Fin' (w1 (ix2 r k))) (h2 : ∀ r k, Cert.Val.Fin' (w2 (ix2 r k))) :
    Pipeline.afterTail₀ cfgs (dats m) 0 (V0 m) [hostOps1] c main_v7 = Cert.ReferenceIdeal.Val.probsOf (F := Ideal) (Cert.ReferenceIdeal.Val.logits (F := Ideal) s w1 b1 w2 b2) (Cert.ReferenceIdeal.Val.argPos (F := Ideal) s)
    ∧ Pipeline.afterTail₀ cfgs (dats m) 0 (V0 m) [hostOps1] c main_v6 = Cert.ReferenceIdeal.Val.doneOf (Cert.ReferenceIdeal.Val.argPos (F := Ideal) s) := by
  constructor
  · rw [tail_v7, final_3 m c (Cert.ReferenceIdeal.Val.logits (F := Ideal) s w1 b1 w2 b2) (Cert.ReferenceIdeal.Val.argPos (F := Ideal) s) fun n hn j r hr q => ?_]
    · funext i
      idx_vars i
      pointwise
      rfl
    · obtain ⟨k, hk, hk'⟩ := pos_word m c s es n hn j r hr
      exact Cert.Val.probs_eq _ j _ r k _ _ hk hk' (lgs_eq m c s w1 b1 w2 b2 es e1 e3 hb1 hb2 n hn j r hr 0 0 rfl) (lgs_eq m c s w1 b1 w2 b2 es e1 e3 hb1 hb2 n hn j r hr 1 1 rfl)
        (lgs_eq m c s w1 b1 w2 b2 es e1 e3 hb1 hb2 n hn j r hr 2 2 rfl) (fun q => Cert.Val.logits_fin s w1 b1 w2 b2 hb1 hb2 hs h1 h2 r q) q
  · rw [tail_v6, final_4 m c (Cert.ReferenceIdeal.Val.argPos (F := Ideal) s) fun n hn j r hr => ?_]
    · funext i
      idx_vars i
      have hw : ∀ w : BitVec 1, IntOp.cmpi .ne (BitVec.setWidth 32 w) 0#32 = w := by decide
      exact hw _
    · obtain ⟨k, hk, hk'⟩ := pos_word m c s es n hn j r hr
      rw [Cert.Val.doneBlk_word _ j k hk, Cert.Val.doneOf_word _ r k hk']
      split <;> rfl

end

end Cert.KernelIdeal.Val

end
-- ==== Proof.Pre.lean ====
/- What the precondition says of the arguments, entry by entry. -/
module

public import proofs.«01_k».proof.Proof.Numbers
public import proofs.«01_k».proof.Proof.Gen.Pre_one_state

@[expose] public section

set_option maxRecDepth 16384

noncomputable section

namespace Cert.Val

open Idealize.ShloMosaic Cert.Pre_one_state Cert.Pre_one_state.Gen

theorem ofBits_top : Ideal.ofBits .f32 0x7F800000#32 = ⊤ := by
  unfold Ideal.ofBits Ideal.ieee
  simp

/-- A value whose absolute value is below the top is a real number. -/
theorem real_of_abs (x : EReal) (h : BitVec.ofBool (decide ((FloatOps.absf (F := Ideal) (φ := .f32) x : EReal) < Ideal.ofBits .f32 0x7F800000#32)) = 1#1) : Fin' x := by
  rw [ofBits_top] at h
  have h' : (FloatOps.absf (F := Ideal) (φ := .f32) x : EReal) < ⊤ := by
    by_contra hn
    rw [decide_eq_false hn] at h
    exact absurd h (by decide)
  have e : (FloatOps.absf (F := Ideal) (φ := .f32) x : EReal) = max x (-x) := rfl
  rw [e] at h'
  induction x with
  | bot => simp at h'
  | top => simp at h'
  | coe r => exact ⟨r, rfl⟩

theorem zero_of_eq (x : EReal) (h : BitVec.ofBool (decide (x = 0)) = 1#1) : x = 0 := by
  by_contra hn
  rw [decide_eq_false hn] at h
  exact absurd h (by decide)

variable (a0 : FVec Ideal S8192x1024 .f32) (a1 : FVec Ideal S1024x1024 .f32) (a2 : FVec Ideal S1024 .f32) (a3 : FVec Ideal S1024x3 .f32) (a4 : FVec Ideal S3 .f32)

theorem pre_b1 (h : (fn (F := Ideal) a0 a1 a2 a3 a4).2.1 = fun _ => 1#1) (k : Fin 1024) : a2 (ix1 k) = 0 := by
  have h := congrFun h (ix1 k)
  unfold fn fn_part1 at h
  pointwise at h
  exact zero_of_eq _ h

theorem pre_b2 (h : (fn (F := Ideal) a0 a1 a2 a3 a4).2.2.1 = fun _ => 1#1) (k : Fin 3) : a4 (ix1 k) = 0 := by
  have h := congrFun h (ix1 k)
  unfold fn fn_part1 at h
  pointwise at h
  exact zero_of_eq _ h

theorem pre_s (h : (fn (F := Ideal) a0 a1 a2 a3 a4).2.2.2.1 = fun _ => 1#1) (r : Fin 8192) (k : Fin 1024) : Fin' (a0 (ix2 r k)) := by
  have h := congrFun h (ix2 r k)
  unfold fn fn_part1 at h
  pointwise at h
  exact real_of_abs _ h

theorem pre_w1 (h : (fn (F := Ideal) a0 a1 a2 a3 a4).2.2.2.2.1 = fun _ => 1#1) (r : Fin 1024) (k : Fin 1024) : Fin' (a1 (ix2 r k)) := by
  have h := congrFun h (ix2 r k)
  unfold fn fn_part1 at h
  pointwise at h
  exact real_of_abs _ h

theorem pre_w2 (h : (fn (F := Ideal) a0 a1 a2 a3 a4).2.2.2.2.2 = fun _ => 1#1) (r : Fin 1024) (k : Fin 3) : Fin' (a3 (ix2 r k)) := by
  have h := congrFun h (ix2 r k)
  unfold fn fn_part1 at h
  pointwise at h
  exact real_of_abs _ h

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_state
public import proofs.«01_k».proof.Proof.KLaunch
public import proofs.«01_k».proof.Proof.RefRun
public import proofs.«01_k».proof.Proof.KOrig
public import proofs.«01_k».proof.Proof.KValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The original program's frame, with the precondition or without. -/
theorem frame_p : Cert.quiescent_Kernel := fun m g _ => Cert.Kernel.Val.frame_all m g

theorem frame_p_pre : Cert.quiescent_Kernel_pre_one_state := fun m g _ => Cert.Kernel.Val.frame_all m g

/-- The idealized program's frame. -/
theorem frame_i : Cert.quiescent_KernelIdeal := fun m g _ => Cert.KernelIdeal.Val.frame_all m g

/-- The reference's frame, with the precondition or without. -/
theorem frame_r : Cert.quiescent_ReferenceIdeal := fun m g _ => Cert.ReferenceIdeal.Val.frame_all m g

theorem frame_r_pre : Cert.quiescent_ReferenceIdeal_pre_one_state := fun m g _ => Cert.ReferenceIdeal.Val.frame_all m g

/-- The idealized program and the reference end with the same two results. -/
theorem algebraic : Cert.algebraic_KernelIdeal_ReferenceIdeal := fun m g m' g' hpre hag => by
  refine ⟨fun c => Cert.ReferenceIdeal.Val.probsOf (F := Ideal) (Cert.ReferenceIdeal.Val.lgOf m' c) (Cert.ReferenceIdeal.Val.argPos (F := Ideal) (m' ((c.tc : Thread Cert.ReferenceIdeal.nD Cert.ReferenceIdeal.τ).loc Cert.ReferenceIdeal.main_arg0))),
    fun c => Cert.ReferenceIdeal.Val.doneOf (Cert.ReferenceIdeal.Val.argPos (F := Ideal) (m' ((c.tc : Thread Cert.ReferenceIdeal.nD Cert.ReferenceIdeal.τ).loc Cert.ReferenceIdeal.main_arg0))), ?_, Cert.ReferenceIdeal.Val.run_values m' g'⟩
  refine θ_run_mono (θ_run_and (Cert.KernelIdeal.Val.run_main m g) (Cert.KernelIdeal.Val.frame_all m g)) fun r h c => ?_
  obtain ⟨a0, a1, a2, a3, a4⟩ := hag c
  obtain ⟨-, p1, p2, p3, p4, p5⟩ := hpre c
  rw [← a0, ← a1, ← a2, ← a3, ← a4] at p1 p2 p3 p4 p5
  have hr := Cert.KernelIdeal.Val.results m c _ _ _ _ _ a0.symm a1.symm a3.symm (Cert.Val.pre_b1 _ _ _ _ _ p1) (Cert.Val.pre_b2 _ _ _ _ _ p2)
    (Cert.Val.pre_s _ _ _ _ _ p3) (Cert.Val.pre_w1 _ _ _ _ _ p4) (Cert.Val.pre_w2 _ _ _ _ _ p5)
  exact ⟨(h.1.1.rest_eq c Cert.KernelIdeal.main_v7 (by decide)).trans hr.1, (h.1.1.rest_eq c Cert.KernelIdeal.main_v6 (by decide)).trans hr.2, h.2.1 c⟩

theorem claim : Cert.Claim := ⟨Cert.Kernel.Gen.facts, Cert.KernelIdeal.Gen.facts, Cert.ReferenceIdeal.Gen.facts, Cert.Pre_one_state.Gen.facts,
  frame_p, frame_p_pre, frame_i, frame_r, frame_r_pre, trivial, algebraic⟩

end Cert.Proof

end
